-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_box_has_size [hPre_every_box_has_size : Cert.Pre_every_box_has_size.Facts] (m : (ℓ : Loc Cert.KernelIdeal.nD Cert.KernelIdeal.τ Cert.KernelIdeal.sig) → Buf (Elt Ideal) ℓ) : Prop :=
  ∀ c : Dev Cert.KernelIdeal.nD,
    (Cert.Pre_every_box_has_size.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_box_has_size [hPre_every_box_has_size : Cert.Pre_every_box_has_size.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_box_has_size.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_every_box_has_size [hKernelIdeal : Cert.KernelIdeal.Facts] [hPre_every_box_has_size : Cert.Pre_every_box_has_size.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_box_has_size m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_every_box_has_size [hReferenceIdeal : Cert.ReferenceIdeal.Facts] [hPre_every_box_has_size : Cert.Pre_every_box_has_size.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_box_has_size m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_every_box_has_size [hKernelIdeal : Cert.KernelIdeal.Facts] [hReferenceIdeal : Cert.ReferenceIdeal.Facts] [hPre_every_box_has_size : Cert.Pre_every_box_has_size.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_box_has_size m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_every_box_has_size : Cert.Pre_every_box_has_size.Facts),
    quiescent_Kernel (hKernel := hKernel)
    ∧ quiescent_KernelIdeal (hKernelIdeal := hKernelIdeal)
    ∧ quiescent_KernelIdeal_pre_every_box_has_size (hKernelIdeal := hKernelIdeal) (hPre_every_box_has_size := hPre_every_box_has_size)
    ∧ quiescent_ReferenceIdeal (hReferenceIdeal := hReferenceIdeal)
    ∧ quiescent_ReferenceIdeal_pre_every_box_has_size (hReferenceIdeal := hReferenceIdeal) (hPre_every_box_has_size := hPre_every_box_has_size)
    ∧ preserves_Kernel_KernelIdeal
    ∧ algebraic_KernelIdeal_ReferenceIdeal_pre_every_box_has_size (hKernelIdeal := hKernelIdeal) (hReferenceIdeal := hReferenceIdeal) (hPre_every_box_has_size := hPre_every_box_has_size)
-- ==== Pre_every_box_has_size.lean ====
abbrev S4x20000x4 : Shape := ⟨3, ![4, 20000, 4]⟩
abbrev S4x20000 : Shape := ⟨2, ![4, 20000]⟩
abbrev S_ : Shape := ⟨0, ![]⟩
abbrev S4x20000x2 : Shape := ⟨3, ![4, 20000, 2]⟩

class Facts : Prop where
  bcast_S_S4x20000x4 : S_.BroadcastsInDim S4x20000x4 (![] : Fin 0 → Fin S4x20000x4.rank)
  slices_S4x20000x4_S4x20000x2_0_0_2 : S4x20000x4.Slices ![0, 0, 2] S4x20000x2
  slices_S4x20000x4_S4x20000x2_0_0_0 : S4x20000x4.Slices ![0, 0, 0] S4x20000x2
  bcast_S_S4x20000x2 : S_.BroadcastsInDim S4x20000x2 (![] : Fin 0 → Fin S4x20000x2.rank)
  reducesTo_S4x20000x2_S_d0_1_2 : S4x20000x2.ReducesTo [0, 1, 2] S_
  h_S_ : 0 < S_.numel

variable [Facts]

def fn {F : FTy → Type} [FloatOps F] (main_arg0 : FVec F S4x20000x4 .f32) (main_arg1 : FVec F S4x20000 .f32) : IVec S_ 1 :=
  let main_cst : FVec F S_ .f32 := constant S_ .f32 0x00000000#32
  let main_v0 : FVec F S4x20000x4 .f32 := broadcastInDim S4x20000x4 ![] bcast_S_S4x20000x4 main_cst
  let main_v1 : FVec F S4x20000x4 .f32 := maximumf main_arg0 main_v0
  let main_cst_0 : FVec F S_ .f32 := constant S_ .f32 0x44480000#32
  let main_v2 : FVec F S4x20000x4 .f32 := broadcastInDim S4x20000x4 ![] bcast_S_S4x20000x4 main_cst_0
  let main_v3 : FVec F S4x20000x4 .f32 := minimumf main_v1 main_v2
  let main_v4 : FVec F S4x20000x2 .f32 := (extractStridedSlice S4x20000x2 ![0, 0, 2] · slices_S4x20000x4_S4x20000x2_0_0_2) main_v3
  let main_v5 : FVec F S4x20000x2 .f32 := (extractStridedSlice S4x20000x2 ![0, 0, 0] · slices_S4x20000x4_S4x20000x2_0_0_0) main_v3
  let main_v6 : FVec F S4x20000x2 .f32 := subf main_v4 main_v5
  let main_cst_1 : FVec F S_ .f32 := constant S_ .f32 0x3A83126F#32
  let main_v7 : FVec F S4x20000x2 .f32 := broadcastInDim S4x20000x2 ![] bcast_S_S4x20000x2 main_cst_1
  let main_v8 : IVec S4x20000x2 1 := cmpf .oge main_v6 main_v7
  let main_c : IVec S_ 1 := constantI S_ 1 1#1
  let main_v9 : IVec S_ 1 := (fun x v => Host.reduce IntOp.andi x v reducesTo_S4x20000x2_S_d0_1_2 h_S_) main_v8 main_c
  main_v9
-- ==== Kernel.lean ====
abbrev S4x20000x4 : Shape := ⟨3, ![4, 20000, 4]⟩
abbrev S4x20000 : Shape := ⟨2, ![4, 20000]⟩
abbrev S4x2048 : Shape := ⟨2, ![4, 2048]⟩
abbrev S4x2000 : Shape := ⟨2, ![4, 2000]⟩
abbrev S4x2000x1 : Shape := ⟨3, ![4, 2000, 1]⟩
abbrev S_ : Shape := ⟨0, ![]⟩
abbrev S1 : Shape := ⟨1, ![1]⟩
abbrev S1x1x1 : Shape := ⟨3, ![1, 1, 1]⟩
abbrev S4x2000x4 : Shape := ⟨3, ![4, 2000, 4]⟩
abbrev S4x1x2048 : Shape := ⟨3, ![4, 1, 2048]⟩
abbrev S4x2048x1 : Shape := ⟨3, ![4, 2048, 1]⟩
abbrev S4x16x1x128 : Shape := ⟨4, ![4, 16, 1, 128]⟩
abbrev S4x128x1 : Shape := ⟨3, ![4, 128, 1]⟩
abbrev S4x1x1x128 : Shape := ⟨4, ![4, 1, 1, 128]⟩
abbrev S4x1x128 : Shape := ⟨3, ![4, 1, 128]⟩
abbrev S4x128x2048 : Shape := ⟨3, ![4, 128, 2048]⟩
abbrev S4x128x128 : Shape := ⟨3, ![4, 128, 128]⟩
abbrev S1x128x128 : Shape := ⟨3, ![1, 128, 128]⟩
abbrev S1x4x128x1 : Shape := ⟨4, ![1, 4, 128, 1]⟩
abbrev S1x1x1x1 : Shape := ⟨4, ![1, 1, 1, 1]⟩
abbrev S4x1000 : Shape := ⟨2, ![4, 1000]⟩
abbrev S4x1000x1 : Shape := ⟨3, ![4, 1000, 1]⟩
abbrev S4x1000x4 : Shape := ⟨3, ![4, 1000, 4]⟩
abbrev S4x1000x5 : Shape := ⟨3, ![4, 1000, 5]⟩

abbrev nBuf : Space → Nat
  | .hbm => 147
  | .vmem => 23
  | .smem => 0
  | _ => 0

abbrev hbmTy0_0 (i : Nat) : BufTy := match i % 128 with
  | 0 => ⟨S4x20000x4, .f32⟩
  | 1 => ⟨S4x20000, .f32⟩
  | 2 => ⟨S4x2048, .f32⟩
  | 3 => ⟨S4x2048, .i32⟩
  | 4 => ⟨S4x2048, .f32⟩
  | 5 => ⟨S4x2048, .f32⟩
  | 6 => ⟨S4x2048, .i32⟩
  | 7 => ⟨S4x2000, .f32⟩
  | 8 => ⟨S4x2000, .f32⟩
  | 9 => ⟨S4x2000, .i32⟩
  | 10 => ⟨S4x2000x1, .i32⟩
  | 11 => ⟨S_, .i32⟩
  | 12 => ⟨S4x2000x1, .i32⟩
  | 13 => ⟨S4x2000x1, .i1⟩
  | 14 => ⟨S_, .i32⟩
  | 15 => ⟨S4x2000x1, .i32⟩
  | 16 => ⟨S4x2000x1, .i32⟩
  | 17 => ⟨S4x2000x1, .i32⟩
  | 18 => ⟨S1, .i32⟩
  | 19 => ⟨S_, .i32⟩
  | 20 => ⟨S4x2000x1, .i32⟩
  | 21 => ⟨S4x2000x1, .i1⟩
  | 22 => ⟨S1x1x1, .i32⟩
  | 23 => ⟨S4x2000x1, .i32⟩
  | 24 => ⟨S4x2000x1, .i1⟩
  | 25 => ⟨S4x2000x1, .i1⟩
  | 26 => ⟨S_, .i1⟩
  | 27 => ⟨S4x2000, .i1⟩
  | 28 => ⟨S4x2000x4, .f32⟩
  | 29 => ⟨S4x2000x4, .i1⟩
  | 30 => ⟨S_, .f32⟩
  | 31 => ⟨S4x2000x4, .f32⟩
  | 32 => ⟨S4x2000x4, .f32⟩
  | 33 => ⟨S4x2000x1, .f32⟩
  | 34 => ⟨S4x2000, .f32⟩
  | 35 => ⟨S_, .f32⟩
  | 36 => ⟨S_, .f32⟩
  | 37 => ⟨S_, .f32⟩
  | 38 => ⟨S4x2000, .f32⟩
  | 39 => ⟨S4x2000, .f32⟩
  | 40 => ⟨S_, .f32⟩
  | 41 => ⟨S4x2000, .f32⟩
  | 42 => ⟨S4x2000, .f32⟩
  | 43 => ⟨S4x2000x1, .f32⟩
  | 44 => ⟨S4x2000, .f32⟩
  | 45 => ⟨S_, .f32⟩
  | 46 => ⟨S_, .f32⟩
  | 47 => ⟨S_, .f32⟩
  | 48 => ⟨S4x2000, .f32⟩
  | 49 => ⟨S4x2000, .f32⟩
  | 50 => ⟨S_, .f32⟩
  | 51 => ⟨S4x2000, .f32⟩
  | 52 => ⟨S4x2000, .f32⟩
  | 53 => ⟨S4x2000x1, .f32⟩
  | 54 => ⟨S4x2000, .f32⟩
  | 55 => ⟨S_, .f32⟩
  | 56 => ⟨S_, .f32⟩
  | 57 => ⟨S_, .f32⟩
  | 58 => ⟨S4x2000, .f32⟩
  | 59 => ⟨S4x2000, .f32⟩
  | 60 => ⟨S_, .f32⟩
  | 61 => ⟨S4x2000, .f32⟩
  | 62 => ⟨S4x2000, .f32⟩
  | 63 => ⟨S4x2000x1, .f32⟩
  | 64 => ⟨S4x2000, .f32⟩
  | 65 => ⟨S_, .f32⟩
  | 66 => ⟨S_, .f32⟩
  | 67 => ⟨S_, .f32⟩
  | 68 => ⟨S4x2000, .f32⟩
  | 69 => ⟨S4x2000, .f32⟩
  | 70 => ⟨S_, .f32⟩
  | 71 => ⟨S4x2000, .f32⟩
  | 72 => ⟨S4x2000, .f32⟩
  | 73 => ⟨S4x2000, .f32⟩
  | 74 => ⟨S4x2000, .f32⟩
  | 75 => ⟨S_, .f32⟩
  | 76 => ⟨S4x2000, .f32⟩
  | 77 => ⟨S4x2000, .f32⟩
  | 78 => ⟨S_, .f32⟩
  | 79 => ⟨S4x2000, .f32⟩
  | 80 => ⟨S4x2000, .f32⟩
  | 81 => ⟨S_, .i32⟩
  | 82 => ⟨S_, .f32⟩
  | 83 => ⟨S4x2048, .f32⟩
  | 84 => ⟨S_, .i32⟩
  | 85 => ⟨S_, .f32⟩
  | 86 => ⟨S4x2048, .f32⟩
  | 87 => ⟨S_, .i32⟩
  | 88 => ⟨S_, .f32⟩
  | 89 => ⟨S4x2048, .f32⟩
  | 90 => ⟨S_, .i32⟩
  | 91 => ⟨S_, .f32⟩
  | 92 => ⟨S4x2048, .f32⟩
  | 93 => ⟨S4x1x2048, .f32⟩
  | 94 => ⟨S4x1x2048, .f32⟩
  | 95 => ⟨S4x1x2048, .f32⟩
  | 96 => ⟨S4x1x2048, .f32⟩
  | 97 => ⟨S4x2048x1, .f32⟩
  | 98 => ⟨S4x2048x1, .f32⟩
  | 99 => ⟨S4x2048x1, .f32⟩
  | 100 => ⟨S4x2048x1, .f32⟩
  | 101 => ⟨S4x16x1x128, .f32⟩
  | 102 => ⟨S4x16x1x128, .f32⟩
  | 103 => ⟨S4x16x1x128, .f32⟩
  | 104 => ⟨S4x16x1x128, .f32⟩
  | 105 => ⟨S4x2048x1, .f32⟩
  | 106 => ⟨S4x2048, .f32⟩
  | 107 => ⟨S4x2000, .f32⟩
  | 108 => ⟨S_, .f32⟩
  | 109 => ⟨S4x2000, .f32⟩
  | 110 => ⟨S4x2000, .i1⟩
  | 111 => ⟨S_, .f32⟩
  | 112 => ⟨S_, .f32⟩
  | 113 => ⟨S4x2000, .f32⟩
  | 114 => ⟨S4x2000, .f32⟩
  | 115 => ⟨S4x1000, .f32⟩
  | 116 => ⟨S4x1000, .i32⟩
  | 117 => ⟨S4x2000x1, .f32⟩
  | 118 => ⟨S4x2000x1, .f32⟩
  | 119 => ⟨S4x2000x1, .f32⟩
  | 120 => ⟨S4x2000x1, .f32⟩
  | 121 => ⟨S4x2000x4, .f32⟩
  | 122 => ⟨S4x1000x1, .i32⟩
  | 123 => ⟨S_, .i32⟩
  | 124 => ⟨S4x1000x1, .i32⟩
  | 125 => ⟨S4x1000x1, .i1⟩
  | 126 => ⟨S_, .i32⟩
  | 127 => ⟨S4x1000x1, .i32⟩
  | _ => ⟨S4x20000x4, .f32⟩

abbrev hbmTy0_1 (i : Nat) : BufTy := match i % 128 with
  | 0 => ⟨S4x1000x1, .i32⟩
  | 1 => ⟨S4x1000x1, .i32⟩
  | 2 => ⟨S1, .i32⟩
  | 3 => ⟨S_, .i32⟩
  | 4 => ⟨S4x1000x1, .i32⟩
  | 5 => ⟨S4x1000x1, .i1⟩
  | 6 => ⟨S1x1x1, .i32⟩
  | 7 => ⟨S4x1000x1, .i32⟩
  | 8 => ⟨S4x1000x1, .i1⟩
  | 9 => ⟨S4x1000x1, .i1⟩
  | 10 => ⟨S_, .i1⟩
  | 11 => ⟨S4x1000, .i1⟩
  | 12 => ⟨S4x1000x4, .f32⟩
  | 13 => ⟨S4x1000x4, .i1⟩
  | 14 => ⟨S_, .f32⟩
  | 15 => ⟨S4x1000x4, .f32⟩
  | 16 => ⟨S4x1000x4, .f32⟩
  | 17 => ⟨S4x1000x1, .f32⟩
  | 18 => ⟨S4x1000x5, .f32⟩
  | _ => ⟨S4x20000x4, .f32⟩

abbrev hbmTy (i : Nat) : BufTy := match i / 128 with
  | 0 => hbmTy0_0 i
  | 1 => hbmTy0_1 i
  | _ => ⟨S4x20000x4, .f32⟩

abbrev bufTy : (tb : Table) → Fin (tcTables nBuf tb) → BufTy
  | .hbm, ⟨i, _⟩ => hbmTy i
  | .local _ .vmem, ⟨0, _⟩ => ⟨S4x1x2048, .f32⟩
  | .local _ .vmem, ⟨1, _⟩ => ⟨S4x1x2048, .f32⟩
  | .local _ .vmem, ⟨2, _⟩ => ⟨S4x1x2048, .f32⟩
  | .local _ .vmem, ⟨3, _⟩ => ⟨S4x1x2048, .f32⟩
  | .local _ .vmem, ⟨4, _⟩ => ⟨S4x128x1, .f32⟩
  | .local _ .vmem, ⟨5, _⟩ => ⟨S4x128x1, .f32⟩
  | .local _ .vmem, ⟨6, _⟩ => ⟨S4x128x1, .f32⟩
  | .local _ .vmem, ⟨7, _⟩ => ⟨S4x128x1, .f32⟩
  | .local _ .vmem, ⟨8, _⟩ => ⟨S4x128x1, .f32⟩
  | .local _ .vmem, ⟨9, _⟩ => ⟨S4x128x1, .f32⟩
  | .local _ .vmem, ⟨10, _⟩ => ⟨S4x128x1, .f32⟩
  | .local _ .vmem, ⟨11, _⟩ => ⟨S4x128x1, .f32⟩
  | .local _ .vmem, ⟨12, _⟩ => ⟨S4x1x1x128, .f32⟩
  | .local _ .vmem, ⟨13, _⟩ => ⟨S4x1x1x128, .f32⟩
  | .local _ .vmem, ⟨14, _⟩ => ⟨S4x1x1x128, .f32⟩
  | .local _ .vmem, ⟨15, _⟩ => ⟨S4x1x1x128, .f32⟩
  | .local _ .vmem, ⟨16, _⟩ => ⟨S4x1x1x128, .f32⟩
  | .local _ .vmem, ⟨17, _⟩ => ⟨S4x1x1x128, .f32⟩
  | .local _ .vmem, ⟨18, _⟩ => ⟨S4x1x1x128, .f32⟩
  | .local _ .vmem, ⟨19, _⟩ => ⟨S4x1x1x128, .f32⟩
  | .local _ .vmem, ⟨20, _⟩ => ⟨S4x128x1, .f32⟩
  | .local _ .vmem, ⟨21, _⟩ => ⟨S4x128x1, .f32⟩
  | .local _ .vmem, ⟨22, _⟩ => ⟨S4x2048x1, .f32⟩
  | _, _ => ⟨S4x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_3 : Ref sig .tc := ⟨.hbm, 55, rfl⟩
abbrev main_cst_4 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_cst_5 : Ref sig .tc := ⟨.hbm, 65, rfl⟩
abbrev main_cst_6 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_cst_7 : Ref sig .tc := ⟨.hbm, 75, rfl⟩
abbrev main_v21 : Ref sig .tc := ⟨.hbm, 76, rfl⟩
abbrev main_v22 : Ref sig .tc := ⟨.hbm, 77, rfl⟩
abbrev main_cst_8 : Ref sig .tc := ⟨.hbm, 78, rfl⟩
abbrev main_v23 : Ref sig .tc := ⟨.hbm, 79, rfl⟩
abbrev main_v24 : Ref sig .tc := ⟨.hbm, 80, rfl⟩
abbrev main_c : Ref sig .tc := ⟨.hbm, 81, rfl⟩
abbrev main_call5_v0 : Ref sig .tc := ⟨.hbm, 82, rfl⟩
abbrev main_v25 : Ref sig .tc := ⟨.hbm, 83, rfl⟩
abbrev main_c_9 : Ref sig .tc := ⟨.hbm, 84, rfl⟩
abbrev main_call6_v0 : Ref sig .tc := ⟨.hbm, 85, rfl⟩
abbrev main_v26 : Ref sig .tc := ⟨.hbm, 86, rfl⟩
abbrev main_c_10 : Ref sig .tc := ⟨.hbm, 87, rfl⟩
abbrev main_call7_v0 : Ref sig .tc := ⟨.hbm, 88, rfl⟩
abbrev main_v27 : Ref sig .tc := ⟨.hbm, 89, rfl⟩
abbrev main_c_11 : Ref sig .tc := ⟨.hbm, 90, rfl⟩
abbrev main_call8_v0 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_cst_12 : Ref sig .tc := ⟨.hbm, 108, rfl⟩
abbrev main_v44 : Ref sig .tc := ⟨.hbm, 109, rfl⟩
abbrev main_v45 : Ref sig .tc := ⟨.hbm, 110, rfl⟩
abbrev main_cst_13 : Ref sig .tc := ⟨.hbm, 111, rfl⟩
abbrev main_call9_v0 : Ref sig .tc := ⟨.hbm, 112, rfl⟩
abbrev main_call9_v1 : Ref sig .tc := ⟨.hbm, 113, rfl⟩
abbrev main_v46 : Ref sig .tc := ⟨.hbm, 114, rfl⟩
abbrev main_values_14 : Ref sig .tc := ⟨.hbm, 115, rfl⟩
abbrev main_indices_15 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_call10_c : Ref sig .tc := ⟨.hbm, 123, rfl⟩
abbrev main_call10_v0 : Ref sig .tc := ⟨.hbm, 124, rfl⟩
abbrev main_call10_v1 : Ref sig .tc := ⟨.hbm, 125, rfl⟩
abbrev main_call10_c_0 : Ref sig .tc := ⟨.hbm, 126, rfl⟩
abbrev main_call10_v2 : Ref sig .tc := ⟨.hbm, 127, rfl⟩
abbrev main_call10_v3 : Ref sig .tc := ⟨.hbm, 128, rfl⟩
abbrev main_call10_v4 : Ref sig .tc := ⟨.hbm, 129, rfl⟩
abbrev main_call10_c_1 : Ref sig .tc := ⟨.hbm, 130, rfl⟩
abbrev main_call10_c_2 : Ref sig .tc := ⟨.hbm, 131, rfl⟩
abbrev main_call10_v5 : Ref sig .tc := ⟨.hbm, 132, rfl⟩
abbrev main_call10_v6 : Ref sig .tc := ⟨.hbm, 133, rfl⟩
abbrev main_call10_v7 : Ref sig .tc := ⟨.hbm, 134, rfl⟩
abbrev main_call10_v8 : Ref sig .tc := ⟨.hbm, 135, rfl⟩
abbrev main_call10_v9 : Ref sig .tc := ⟨.hbm, 136, rfl⟩
abbrev main_call10_v10 : Ref sig .tc := ⟨.hbm, 137, rfl⟩
abbrev main_call10_c_3 : Ref sig .tc := ⟨.hbm, 138, rfl⟩
abbrev main_call10_v11 : Ref sig .tc := ⟨.hbm, 139, rfl⟩
abbrev main_call10_v12 : Ref sig .tc := ⟨.hbm, 140, rfl⟩
abbrev main_call10_v13 : Ref sig .tc := ⟨.hbm, 141, rfl⟩
abbrev main_call10_cst : Ref sig .tc := ⟨.hbm, 142, rfl⟩
abbrev main_call10_v14 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_59 : Index := 0#32
  let arg0 : BitVec 32 := BitVec.ofNat 32 (i 0).val
  let c128_i32 : BitVec 32 := 128#32
  let v115 : BitVec 32 := Scalar.muli arg0 c128_i32
  let v116 : Index := Scalar.indexCast v115
  let c0_60 : Index := 0#32
  ![0, v116.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4x20000x4 : Shape := ⟨3, ![4, 20000, 4]⟩
abbrev S4x20000 : Shape := ⟨2, ![4, 20000]⟩
abbrev S4x2000 : Shape := ⟨2, ![4, 2000]⟩
abbrev S4x2000x1 : Shape := ⟨3, ![4, 2000, 1]⟩
abbrev S_ : Shape := ⟨0, ![]⟩
abbrev S1 : Shape := ⟨1, ![1]⟩
abbrev S1x1x1 : Shape := ⟨3, ![1, 1, 1]⟩
abbrev S4x2000x4 : Shape := ⟨3, ![4, 2000, 4]⟩
abbrev S4x1x2000 : Shape := ⟨3, ![4, 1, 2000]⟩
abbrev S4x2000x2000 : Shape := ⟨3, ![4, 2000, 2000]⟩
abbrev S2000 : Shape := ⟨1, ![2000]⟩
abbrev S1x2000 : Shape := ⟨2, ![1, 2000]⟩
abbrev S4 : Shape := ⟨1, ![4]⟩
abbrev S4x1 : Shape := ⟨2, ![4, 1]⟩
abbrev S4x1000 : Shape := ⟨2, ![4, 1000]⟩
abbrev S4x1000x1 : Shape := ⟨3, ![4, 1000, 1]⟩
abbrev S4x1000x4 : Shape := ⟨3, ![4, 1000, 4]⟩
abbrev S4x1000x5 : Shape := ⟨3, ![4, 1000, 5]⟩

abbrev nBuf : Space → Nat
  | .hbm => 363
  | .vmem => 0
  | .smem => 0
  | _ => 0

abbrev hbmTy0_0 (i : Nat) : BufTy := match i % 128 with
  | 0 => ⟨S4x20000x4, .f32⟩
  | 1 => ⟨S4x20000, .f32⟩
  | 2 => ⟨S4x2000, .f32⟩
  | 3 => ⟨S4x2000, .i32⟩
  | 4 => ⟨S4x2000x1, .i32⟩
  | 5 => ⟨S_, .i32⟩
  | 6 => ⟨S4x2000x1, .i32⟩
  | 7 => ⟨S4x2000x1, .i1⟩
  | 8 => ⟨S_, .i32⟩
  | 9 => ⟨S4x2000x1, .i32⟩
  | 10 => ⟨S4x2000x1, .i32⟩
  | 11 => ⟨S4x2000x1, .i32⟩
  | 12 => ⟨S1, .i32⟩
  | 13 => ⟨S_, .i32⟩
  | 14 => ⟨S4x2000x1, .i32⟩
  | 15 => ⟨S4x2000x1, .i1⟩
  | 16 => ⟨S1x1x1, .i32⟩
  | 17 => ⟨S4x2000x1, .i32⟩
  | 18 => ⟨S4x2000x1, .i1⟩
  | 19 => ⟨S4x2000x1, .i1⟩
  | 20 => ⟨S_, .i1⟩
  | 21 => ⟨S4x2000, .i1⟩
  | 22 => ⟨S4x2000x4, .f32⟩
  | 23 => ⟨S4x2000x4, .i1⟩
  | 24 => ⟨S_, .f32⟩
  | 25 => ⟨S4x2000x4, .f32⟩
  | 26 => ⟨S4x2000x4, .f32⟩
  | 27 => ⟨S4x2000, .f32⟩
  | 28 => ⟨S4x2000, .f32⟩
  | 29 => ⟨S_, .f32⟩
  | 30 => ⟨S4x2000, .f32⟩
  | 31 => ⟨S4x2000, .f32⟩
  | 32 => ⟨S_, .f32⟩
  | 33 => ⟨S4x2000, .f32⟩
  | 34 => ⟨S4x2000, .f32⟩
  | 35 => ⟨S4x2000x1, .f32⟩
  | 36 => ⟨S4x2000, .f32⟩
  | 37 => ⟨S_, .f32⟩
  | 38 => ⟨S_, .f32⟩
  | 39 => ⟨S_, .f32⟩
  | 40 => ⟨S4x2000, .f32⟩
  | 41 => ⟨S4x2000, .f32⟩
  | 42 => ⟨S_, .f32⟩
  | 43 => ⟨S4x2000, .f32⟩
  | 44 => ⟨S4x2000, .f32⟩
  | 45 => ⟨S4x2000x1, .f32⟩
  | 46 => ⟨S4x2000, .f32⟩
  | 47 => ⟨S_, .f32⟩
  | 48 => ⟨S_, .f32⟩
  | 49 => ⟨S_, .f32⟩
  | 50 => ⟨S4x2000, .f32⟩
  | 51 => ⟨S4x2000, .f32⟩
  | 52 => ⟨S_, .f32⟩
  | 53 => ⟨S4x2000, .f32⟩
  | 54 => ⟨S4x2000, .f32⟩
  | 55 => ⟨S4x2000x1, .f32⟩
  | 56 => ⟨S4x2000, .f32⟩
  | 57 => ⟨S_, .f32⟩
  | 58 => ⟨S_, .f32⟩
  | 59 => ⟨S_, .f32⟩
  | 60 => ⟨S4x2000, .f32⟩
  | 61 => ⟨S4x2000, .f32⟩
  | 62 => ⟨S_, .f32⟩
  | 63 => ⟨S4x2000, .f32⟩
  | 64 => ⟨S4x2000, .f32⟩
  | 65 => ⟨S4x2000x1, .f32⟩
  | 66 => ⟨S4x2000, .f32⟩
  | 67 => ⟨S_, .f32⟩
  | 68 => ⟨S_, .f32⟩
  | 69 => ⟨S_, .f32⟩
  | 70 => ⟨S4x2000, .f32⟩
  | 71 => ⟨S4x2000, .f32⟩
  | 72 => ⟨S_, .f32⟩
  | 73 => ⟨S4x2000, .f32⟩
  | 74 => ⟨S4x2000, .f32⟩
  | 75 => ⟨S4x2000, .f32⟩
  | 76 => ⟨S_, .f32⟩
  | 77 => ⟨S4x2000, .f32⟩
  | 78 => ⟨S4x2000, .i1⟩
  | 79 => ⟨S4x2000, .f32⟩
  | 80 => ⟨S_, .f32⟩
  | 81 => ⟨S4x2000, .f32⟩
  | 82 => ⟨S4x2000, .i1⟩
  | 83 => ⟨S4x2000, .i1⟩
  | 84 => ⟨S_, .f32⟩
  | 85 => ⟨S4x2000, .f32⟩
  | 86 => ⟨S4x2000, .i1⟩
  | 87 => ⟨S4x2000, .i1⟩
  | 88 => ⟨S_, .f32⟩
  | 89 => ⟨S_, .f32⟩
  | 90 => ⟨S4x2000, .f32⟩
  | 91 => ⟨S4x2000, .f32⟩
  | 92 => ⟨S4x2000, .f32⟩
  | 93 => ⟨S4x2000, .i32⟩
  | 94 => ⟨S4x2000, .f32⟩
  | 95 => ⟨S4x2000, .i32⟩
  | 96 => ⟨S_, .i32⟩
  | 97 => ⟨S4x2000, .i32⟩
  | 98 => ⟨S4x2000, .i1⟩
  | 99 => ⟨S_, .i32⟩
  | 100 => ⟨S4x2000, .i32⟩
  | 101 => ⟨S4x2000, .i32⟩
  | 102 => ⟨S4x2000, .i32⟩
  | 103 => ⟨S4x2000x1, .i32⟩
  | 104 => ⟨S1, .i32⟩
  | 105 => ⟨S_, .i32⟩
  | 106 => ⟨S4x2000x1, .i32⟩
  | 107 => ⟨S4x2000x1, .i1⟩
  | 108 => ⟨S1x1x1, .i32⟩
  | 109 => ⟨S4x2000x1, .i32⟩
  | 110 => ⟨S4x2000x1, .i1⟩
  | 111 => ⟨S4x2000x1, .i1⟩
  | 112 => ⟨S_, .i1⟩
  | 113 => ⟨S4x2000, .i1⟩
  | 114 => ⟨S4x2000, .f32⟩
  | 115 => ⟨S_, .f32⟩
  | 116 => ⟨S4x2000, .f32⟩
  | 117 => ⟨S4x2000, .f32⟩
  | 118 => ⟨S_, .i32⟩
  | 119 => ⟨S4x2000, .i32⟩
  | 120 => ⟨S4x2000, .i1⟩
  | 121 => ⟨S_, .i32⟩
  | 122 => ⟨S4x2000, .i32⟩
  | 123 => ⟨S4x2000, .i32⟩
  | 124 => ⟨S4x2000, .i32⟩
  | 125 => ⟨S4x2000x1, .i32⟩
  | 126 => ⟨S1, .i32⟩
  | 127 => ⟨S_, .i32⟩
  | _ => ⟨S4x20000x4, .f32⟩

abbrev hbmTy0_1 (i : Nat) : BufTy := match i % 128 with
  | 0 => ⟨S4x2000x1, .i32⟩
  | 1 => ⟨S4x2000x1, .i1⟩
  | 2 => ⟨S1x1x1, .i32⟩
  | 3 => ⟨S4x2000x1, .i32⟩
  | 4 => ⟨S4x2000x1, .i1⟩
  | 5 => ⟨S4x2000x1, .i1⟩
  | 6 => ⟨S_, .i1⟩
  | 7 => ⟨S4x2000, .i1⟩
  | 8 => ⟨S4x2000, .f32⟩
  | 9 => ⟨S_, .f32⟩
  | 10 => ⟨S4x2000, .f32⟩
  | 11 => ⟨S4x2000, .f32⟩
  | 12 => ⟨S_, .i32⟩
  | 13 => ⟨S4x2000, .i32⟩
  | 14 => ⟨S4x2000, .i1⟩
  | 15 => ⟨S_, .i32⟩
  | 16 => ⟨S4x2000, .i32⟩
  | 17 => ⟨S4x2000, .i32⟩
  | 18 => ⟨S4x2000, .i32⟩
  | 19 => ⟨S4x2000x1, .i32⟩
  | 20 => ⟨S1, .i32⟩
  | 21 => ⟨S_, .i32⟩
  | 22 => ⟨S4x2000x1, .i32⟩
  | 23 => ⟨S4x2000x1, .i1⟩
  | 24 => ⟨S1x1x1, .i32⟩
  | 25 => ⟨S4x2000x1, .i32⟩
  | 26 => ⟨S4x2000x1, .i1⟩
  | 27 => ⟨S4x2000x1, .i1⟩
  | 28 => ⟨S_, .i1⟩
  | 29 => ⟨S4x2000, .i1⟩
  | 30 => ⟨S4x2000, .f32⟩
  | 31 => ⟨S_, .f32⟩
  | 32 => ⟨S4x2000, .f32⟩
  | 33 => ⟨S4x2000, .f32⟩
  | 34 => ⟨S_, .i32⟩
  | 35 => ⟨S4x2000, .i32⟩
  | 36 => ⟨S4x2000, .i1⟩
  | 37 => ⟨S_, .i32⟩
  | 38 => ⟨S4x2000, .i32⟩
  | 39 => ⟨S4x2000, .i32⟩
  | 40 => ⟨S4x2000, .i32⟩
  | 41 => ⟨S4x2000x1, .i32⟩
  | 42 => ⟨S1, .i32⟩
  | 43 => ⟨S_, .i32⟩
  | 44 => ⟨S4x2000x1, .i32⟩
  | 45 => ⟨S4x2000x1, .i1⟩
  | 46 => ⟨S1x1x1, .i32⟩
  | 47 => ⟨S4x2000x1, .i32⟩
  | 48 => ⟨S4x2000x1, .i1⟩
  | 49 => ⟨S4x2000x1, .i1⟩
  | 50 => ⟨S_, .i1⟩
  | 51 => ⟨S4x2000, .i1⟩
  | 52 => ⟨S4x2000, .f32⟩
  | 53 => ⟨S_, .f32⟩
  | 54 => ⟨S4x2000, .f32⟩
  | 55 => ⟨S4x2000, .f32⟩
  | 56 => ⟨S_, .i32⟩
  | 57 => ⟨S4x2000, .i32⟩
  | 58 => ⟨S4x2000, .i1⟩
  | 59 => ⟨S_, .i32⟩
  | 60 => ⟨S4x2000, .i32⟩
  | 61 => ⟨S4x2000, .i32⟩
  | 62 => ⟨S4x2000, .i32⟩
  | 63 => ⟨S4x2000x1, .i32⟩
  | 64 => ⟨S1, .i32⟩
  | 65 => ⟨S_, .i32⟩
  | 66 => ⟨S4x2000x1, .i32⟩
  | 67 => ⟨S4x2000x1, .i1⟩
  | 68 => ⟨S1x1x1, .i32⟩
  | 69 => ⟨S4x2000x1, .i32⟩
  | 70 => ⟨S4x2000x1, .i1⟩
  | 71 => ⟨S4x2000x1, .i1⟩
  | 72 => ⟨S_, .i1⟩
  | 73 => ⟨S4x2000, .i1⟩
  | 74 => ⟨S4x2000, .f32⟩
  | 75 => ⟨S_, .f32⟩
  | 76 => ⟨S4x2000, .f32⟩
  | 77 => ⟨S4x2000, .f32⟩
  | 78 => ⟨S_, .i32⟩
  | 79 => ⟨S4x2000, .i32⟩
  | 80 => ⟨S4x2000, .i1⟩
  | 81 => ⟨S_, .i32⟩
  | 82 => ⟨S4x2000, .i32⟩
  | 83 => ⟨S4x2000, .i32⟩
  | 84 => ⟨S4x2000, .i32⟩
  | 85 => ⟨S4x2000x1, .i32⟩
  | 86 => ⟨S1, .i32⟩
  | 87 => ⟨S_, .i32⟩
  | 88 => ⟨S4x2000x1, .i32⟩
  | 89 => ⟨S4x2000x1, .i1⟩
  | 90 => ⟨S1x1x1, .i32⟩
  | 91 => ⟨S4x2000x1, .i32⟩
  | 92 => ⟨S4x2000x1, .i1⟩
  | 93 => ⟨S4x2000x1, .i1⟩
  | 94 => ⟨S_, .i1⟩
  | 95 => ⟨S4x2000, .i1⟩
  | 96 => ⟨S4x2000, .i1⟩
  | 97 => ⟨S_, .i1⟩
  | 98 => ⟨S4x2000, .i1⟩
  | 99 => ⟨S4x2000, .i1⟩
  | 100 => ⟨S4x2000, .f32⟩
  | 101 => ⟨S4x2000, .f32⟩
  | 102 => ⟨S4x2000, .f32⟩
  | 103 => ⟨S4x2000x1, .f32⟩
  | 104 => ⟨S4x1x2000, .f32⟩
  | 105 => ⟨S4x2000x2000, .f32⟩
  | 106 => ⟨S4x2000x2000, .f32⟩
  | 107 => ⟨S4x2000x2000, .f32⟩
  | 108 => ⟨S4x2000x1, .f32⟩
  | 109 => ⟨S4x1x2000, .f32⟩
  | 110 => ⟨S4x2000x2000, .f32⟩
  | 111 => ⟨S4x2000x2000, .f32⟩
  | 112 => ⟨S4x2000x2000, .f32⟩
  | 113 => ⟨S4x2000x2000, .f32⟩
  | 114 => ⟨S4x2000x1, .f32⟩
  | 115 => ⟨S4x1x2000, .f32⟩
  | 116 => ⟨S4x2000x2000, .f32⟩
  | 117 => ⟨S4x2000x2000, .f32⟩
  | 118 => ⟨S4x2000x2000, .f32⟩
  | 119 => ⟨S4x2000x1, .f32⟩
  | 120 => ⟨S4x1x2000, .f32⟩
  | 121 => ⟨S4x2000x2000, .f32⟩
  | 122 => ⟨S4x2000x2000, .f32⟩
  | 123 => ⟨S4x2000x2000, .f32⟩
  | 124 => ⟨S4x2000x2000, .f32⟩
  | 125 => ⟨S_, .f32⟩
  | 126 => ⟨S_, .f32⟩
  | 127 => ⟨S4x2000x2000, .f32⟩
  | _ => ⟨S4x20000x4, .f32⟩

abbrev hbmTy0_2 (i : Nat) : BufTy := match i % 128 with
  | 0 => ⟨S4x2000x2000, .f32⟩
  | 1 => ⟨S_, .f32⟩
  | 2 => ⟨S_, .f32⟩
  | 3 => ⟨S4x2000x2000, .f32⟩
  | 4 => ⟨S4x2000x2000, .f32⟩
  | 5 => ⟨S4x2000x2000, .f32⟩
  | 6 => ⟨S4x2000x1, .f32⟩
  | 7 => ⟨S4x1x2000, .f32⟩
  | 8 => ⟨S4x2000x2000, .f32⟩
  | 9 => ⟨S4x2000x2000, .f32⟩
  | 10 => ⟨S4x2000x2000, .f32⟩
  | 11 => ⟨S4x2000x2000, .f32⟩
  | 12 => ⟨S_, .f32⟩
  | 13 => ⟨S4x2000x2000, .f32⟩
  | 14 => ⟨S4x2000x2000, .f32⟩
  | 15 => ⟨S4x2000x2000, .f32⟩
  | 16 => ⟨S2000, .i32⟩
  | 17 => ⟨S_, .i32⟩
  | 18 => ⟨S_, .i32⟩
  | 19 => ⟨S4x2000x2000, .f32⟩
  | 20 => ⟨S2000, .i32⟩
  | 21 => ⟨S_, .i32⟩
  | 22 => ⟨S_, .i32⟩
  | 23 => ⟨S4x2000, .i1⟩
  | 24 => ⟨S_, .i32⟩
  | 25 => ⟨S_, .i1⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S4x1x2000, .f32⟩
  | 37 => ⟨S4x2000, .f32⟩
  | 38 => ⟨S_, .f32⟩
  | 39 => ⟨S4x2000, .f32⟩
  | 40 => ⟨S4x2000, .i1⟩
  | 41 => ⟨S4x2000, .i1⟩
  | 42 => ⟨S_, .i32⟩
  | 43 => ⟨S2000, .i32⟩
  | 44 => ⟨S2000, .i1⟩
  | 45 => ⟨S1x2000, .i1⟩
  | 46 => ⟨S4x2000, .i1⟩
  | 47 => ⟨S4x2000, .i1⟩
  | 48 => ⟨S_, .i1⟩
  | 49 => ⟨S4, .i1⟩
  | 50 => ⟨S4x1, .i1⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S4x1, .i1⟩
  | 59 => ⟨S4x1, .i1⟩
  | 60 => ⟨S4x1, .i1⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S4x2000, .i1⟩
  | 69 => ⟨S_, .i32⟩
  | 70 => ⟨S_, .i32⟩
  | 71 => ⟨S_, .f32⟩
  | 72 => ⟨S_, .f32⟩
  | 73 => ⟨S4x2000, .f32⟩
  | 74 => ⟨S4x2000, .f32⟩
  | 75 => ⟨S4x1000, .f32⟩
  | 76 => ⟨S4x1000, .i32⟩
  | 77 => ⟨S4x2000x1, .f32⟩
  | 78 => ⟨S4x2000x1, .f32⟩
  | 79 => ⟨S4x2000x1, .f32⟩
  | 80 => ⟨S4x2000x1, .f32⟩
  | 81 => ⟨S4x2000x4, .f32⟩
  | 82 => ⟨S4x1000x1, .i32⟩
  | 83 => ⟨S_, .i32⟩
  | 84 => ⟨S4x1000x1, .i32⟩
  | 85 => ⟨S4x1000x1, .i1⟩
  | 86 => ⟨S_, .i32⟩
  | 87 => ⟨S4x1000x1, .i32⟩
  | 88 => ⟨S4x1000x1, .i32⟩
  | 89 => ⟨S4x1000x1, .i32⟩
  | 90 => ⟨S1, .i32⟩
  | 91 => ⟨S_, .i32⟩
  | 92 => ⟨S4x1000x1, .i32⟩
  | 93 => ⟨S4x1000x1, .i1⟩
  | 94 => ⟨S1x1x1, .i32⟩
  | 95 => ⟨S4x1000x1, .i32⟩
  | 96 => ⟨S4x1000x1, .i1⟩
  | 97 => ⟨S4x1000x1, .i1⟩
  | 98 => ⟨S_, .i1⟩
  | 99 => ⟨S4x1000, .i1⟩
  | 100 => ⟨S4x1000x4, .f32⟩
  | 101 => ⟨S4x1000x4, .i1⟩
  | 102 => ⟨S_, .f32⟩
  | 103 => ⟨S4x1000x4, .f32⟩
  | 104 => ⟨S4x1000x4, .f32⟩
  | 105 => ⟨S4x1000x1, .f32⟩
  | 106 => ⟨S4x1000x5, .f32⟩
  | _ => ⟨S4x20000x4, .f32⟩

abbrev hbmTy (i : Nat) : BufTy := match i / 128 with
  | 0 => hbmTy0_0 i
  | 1 => hbmTy0_1 i
  | 2 => hbmTy0_2 i
  | _ => ⟨S4x20000x4, .f32⟩

abbrev bufTy : (tb : Table) → Fin (tcTables nBuf tb) → BufTy
  | .hbm, ⟨i, _⟩ => hbmTy i
  | _, _ => ⟨S4x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c_1 : Ref sig .tc := ⟨.hbm, 12, rfl⟩
abbrev main_call0_c_2 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_3 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_1 : Ref sig .tc := ⟨.hbm, 37, rfl⟩
abbrev main_cst_2 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_3 : Ref sig .tc := ⟨.hbm, 47, rfl⟩
abbrev main_cst_4 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_cst_5 : Ref sig .tc := ⟨.hbm, 57, rfl⟩
abbrev main_cst_6 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_cst_7 : Ref sig .tc := ⟨.hbm, 67, rfl⟩
abbrev main_cst_8 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v19 : Ref sig .tc := ⟨.hbm, 74, rfl⟩
abbrev main_v20 : Ref sig .tc := ⟨.hbm, 75, rfl⟩
abbrev main_cst_9 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_10 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_cst_11 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_12 : Ref sig .tc := ⟨.hbm, 88, rfl⟩
abbrev main_call5_v0 : Ref sig .tc := ⟨.hbm, 89, rfl⟩
abbrev main_call5_v1 : Ref sig .tc := ⟨.hbm, 90, rfl⟩
abbrev main_v30 : Ref sig .tc := ⟨.hbm, 91, rfl⟩
abbrev main_v31 : Ref sig .tc := ⟨.hbm, 92, rfl⟩
abbrev main_call6_v0 : Ref sig .tc := ⟨.hbm, 93, rfl⟩
abbrev main_call6_v1_0 : Ref sig .tc := ⟨.hbm, 94, rfl⟩
abbrev main_v32 : Ref sig .tc := ⟨.hbm, 95, rfl⟩
abbrev main_call7_c : Ref sig .tc := ⟨.hbm, 96, rfl⟩
abbrev main_call7_v0 : Ref sig .tc := ⟨.hbm, 97, rfl⟩
abbrev main_call7_v1 : Ref sig .tc := ⟨.hbm, 98, rfl⟩
abbrev main_call7_c_0 : Ref sig .tc := ⟨.hbm, 99, rfl⟩
abbrev main_call7_v2 : Ref sig .tc := ⟨.hbm, 100, rfl⟩
abbrev main_call7_v3 : Ref sig .tc := ⟨.hbm, 101, rfl⟩
abbrev main_call7_v4 : Ref sig .tc := ⟨.hbm, 102, rfl⟩
abbrev main_call7_v5 : Ref sig .tc := ⟨.hbm, 103, rfl⟩
abbrev main_call7_c_1 : Ref sig .tc := ⟨.hbm, 104, rfl⟩
abbrev main_call7_c_2 : Ref sig .tc := ⟨.hbm, 105, rfl⟩
abbrev main_call7_v6 : Ref sig .tc := ⟨.hbm, 106, rfl⟩
abbrev main_call7_v7 : Ref sig .tc := ⟨.hbm, 107, rfl⟩
abbrev main_call7_v8 : Ref sig .tc := ⟨.hbm, 108, rfl⟩
abbrev main_call7_v9 : Ref sig .tc := ⟨.hbm, 109, rfl⟩
abbrev main_call7_v10 : Ref sig .tc := ⟨.hbm, 110, rfl⟩
abbrev main_call7_v11 : Ref sig .tc := ⟨.hbm, 111, rfl⟩
abbrev main_call7_c_3 : Ref sig .tc := ⟨.hbm, 112, rfl⟩
abbrev main_call7_v12 : Ref sig .tc := ⟨.hbm, 113, rfl⟩
abbrev main_call7_v13 : Ref sig .tc := ⟨.hbm, 114, rfl⟩
abbrev main_call7_cst : Ref sig .tc := ⟨.hbm, 115, rfl⟩
abbrev main_call7_v14 : Ref sig .tc := ⟨.hbm, 116, rfl⟩
abbrev main_v33 : Ref sig .tc := ⟨.hbm, 117, rfl⟩
abbrev main_call8_c : Ref sig .tc := ⟨.hbm, 118, rfl⟩
abbrev main_call8_v0 : Ref sig .tc := ⟨.hbm, 119, rfl⟩
abbrev main_call8_v1 : Ref sig .tc := ⟨.hbm, 120, rfl⟩
abbrev main_call8_c_0 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_call8_v5 : Ref sig .tc := ⟨.hbm, 125, rfl⟩
abbrev main_call8_c_1 : Ref sig .tc := ⟨.hbm, 126, rfl⟩
abbrev main_call8_c_2 : Ref sig .tc := ⟨.hbm, 127, rfl⟩
abbrev main_call8_v6 : Ref sig .tc := ⟨.hbm, 128, rfl⟩
abbrev main_call8_v7 : Ref sig .tc := ⟨.hbm, 129, rfl⟩
abbrev main_call8_v8 : Ref sig .tc := ⟨.hbm, 130, rfl⟩
abbrev main_call8_v9 : Ref sig .tc := ⟨.hbm, 131, rfl⟩
abbrev main_call8_v10 : Ref sig .tc := ⟨.hbm, 132, rfl⟩
abbrev main_call8_v11 : Ref sig .tc := ⟨.hbm, 133, rfl⟩
abbrev main_call8_c_3 : Ref sig .tc := ⟨.hbm, 134, rfl⟩
abbrev main_call8_v12 : Ref sig .tc := ⟨.hbm, 135, rfl⟩
abbrev main_call8_v13 : Ref sig .tc := ⟨.hbm, 136, rfl⟩
abbrev main_call8_cst : Ref sig .tc := ⟨.hbm, 137, rfl⟩
abbrev main_call8_v14 : Ref sig .tc := ⟨.hbm, 138, rfl⟩
abbrev main_v34 : Ref sig .tc := ⟨.hbm, 139, rfl⟩
abbrev main_call9_c : Ref sig .tc := ⟨.hbm, 140, rfl⟩
abbrev main_call9_v0 : Ref sig .tc := ⟨.hbm, 141, rfl⟩
abbrev main_call9_v1 : Ref sig .tc := ⟨.hbm, 142, rfl⟩
abbrev main_call9_c_0 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_call9_v5 : Ref sig .tc := ⟨.hbm, 147, rfl⟩
abbrev main_call9_c_1 : Ref sig .tc := ⟨.hbm, 148, rfl⟩
abbrev main_call9_c_2 : Ref sig .tc := ⟨.hbm, 149, rfl⟩
abbrev main_call9_v6 : Ref sig .tc := ⟨.hbm, 150, rfl⟩
abbrev main_call9_v7 : Ref sig .tc := ⟨.hbm, 151, rfl⟩
abbrev main_call9_v8 : Ref sig .tc := ⟨.hbm, 152, rfl⟩
abbrev main_call9_v9 : Ref sig .tc := ⟨.hbm, 153, rfl⟩
abbrev main_call9_v10 : Ref sig .tc := ⟨.hbm, 154, rfl⟩
abbrev main_call9_v11 : Ref sig .tc := ⟨.hbm, 155, rfl⟩
abbrev main_call9_c_3 : Ref sig .tc := ⟨.hbm, 156, rfl⟩
abbrev main_call9_v12 : Ref sig .tc := ⟨.hbm, 157, rfl⟩
abbrev main_call9_v13 : Ref sig .tc := ⟨.hbm, 158, rfl⟩
abbrev main_call9_cst : Ref sig .tc := ⟨.hbm, 159, rfl⟩
abbrev main_call9_v14 : Ref sig .tc := ⟨.hbm, 160, rfl⟩
abbrev main_v35 : Ref sig .tc := ⟨.hbm, 161, rfl⟩
abbrev main_call10_c : Ref sig .tc := ⟨.hbm, 162, rfl⟩
abbrev main_call10_v0 : Ref sig .tc := ⟨.hbm, 163, rfl⟩
abbrev main_call10_v1 : Ref sig .tc := ⟨.hbm, 164, rfl⟩
abbrev main_call10_c_0 : Ref sig .tc := ⟨.hbm, 165, rfl⟩
abbrev main_call10_v2 : Ref sig .tc := ⟨.hbm, 166, rfl⟩
abbrev main_call10_v3 : Ref sig .tc := ⟨.hbm, 167, rfl⟩
abbrev main_call10_v4 : Ref sig .tc := ⟨.hbm, 168, rfl⟩
abbrev main_call10_v5 : Ref sig .tc := ⟨.hbm, 169, rfl⟩
abbrev main_call10_c_1 : Ref sig .tc := ⟨.hbm, 170, rfl⟩
abbrev main_call10_c_2 : Ref sig .tc := ⟨.hbm, 171, rfl⟩
abbrev main_call10_v6 : Ref sig .tc := ⟨.hbm, 172, rfl⟩
abbrev main_call10_v7 : Ref sig .tc := ⟨.hbm, 173, rfl⟩
abbrev main_call10_v8 : Ref sig .tc := ⟨.hbm, 174, rfl⟩
abbrev main_call10_v9 : Ref sig .tc := ⟨.hbm, 175, rfl⟩
abbrev main_call10_v10 : Ref sig .tc := ⟨.hbm, 176, rfl⟩
abbrev main_call10_v11 : Ref sig .tc := ⟨.hbm, 177, rfl⟩
abbrev main_call10_c_3 : Ref sig .tc := ⟨.hbm, 178, rfl⟩
abbrev main_call10_v12 : Ref sig .tc := ⟨.hbm, 179, rfl⟩
abbrev main_call10_v13 : Ref sig .tc := ⟨.hbm, 180, rfl⟩
abbrev main_call10_cst : Ref sig .tc := ⟨.hbm, 181, rfl⟩
abbrev main_call10_v14 : Ref sig .tc := ⟨.hbm, 182, rfl⟩
abbrev main_v36 : Ref sig .tc := ⟨.hbm, 183, rfl⟩
abbrev main_call11_c : Ref sig .tc := ⟨.hbm, 184, rfl⟩
abbrev main_call11_v0 : Ref sig .tc := ⟨.hbm, 185, rfl⟩
abbrev main_call11_v1 : Ref sig .tc := ⟨.hbm, 186, rfl⟩
abbrev main_call11_c_0 : Ref sig .tc := ⟨.hbm, 187, rfl⟩
abbrev main_call11_v2 : Ref sig .tc := ⟨.hbm, 188, rfl⟩
abbrev main_call11_v3 : Ref sig .tc := ⟨.hbm, 189, rfl⟩
abbrev main_call11_v4 : Ref sig .tc := ⟨.hbm, 190, rfl⟩
abbrev main_call11_v5 : Ref sig .tc := ⟨.hbm, 191, rfl⟩
abbrev main_call11_c_1 : Ref sig .tc := ⟨.hbm, 192, rfl⟩
abbrev main_call11_c_2 : Ref sig .tc := ⟨.hbm, 193, rfl⟩
abbrev main_call11_v6 : Ref sig .tc := ⟨.hbm, 194, rfl⟩
abbrev main_call11_v7 : Ref sig .tc := ⟨.hbm, 195, rfl⟩
abbrev main_call11_v8 : Ref sig .tc := ⟨.hbm, 196, rfl⟩
abbrev main_call11_v9 : Ref sig .tc := ⟨.hbm, 197, rfl⟩
abbrev main_call11_v10 : Ref sig .tc := ⟨.hbm, 198, rfl⟩
abbrev main_call11_v11 : Ref sig .tc := ⟨.hbm, 199, rfl⟩
abbrev main_call11_c_3 : Ref sig .tc := ⟨.hbm, 200, rfl⟩
abbrev main_call11_v12 : Ref sig .tc := ⟨.hbm, 201, rfl⟩
abbrev main_call11_v13 : Ref sig .tc := ⟨.hbm, 202, rfl⟩
abbrev main_call11_cst : Ref sig .tc := ⟨.hbm, 203, rfl⟩
abbrev main_call11_v14 : Ref sig .tc := ⟨.hbm, 204, rfl⟩
abbrev main_v37 : Ref sig .tc := ⟨.hbm, 205, rfl⟩
abbrev main_call12_c : Ref sig .tc := ⟨.hbm, 206, rfl⟩
abbrev main_call12_v0 : Ref sig .tc := ⟨.hbm, 207, rfl⟩
abbrev main_call12_v1 : Ref sig .tc := ⟨.hbm, 208, rfl⟩
abbrev main_call12_c_0 : Ref sig .tc := ⟨.hbm, 209, rfl⟩
abbrev main_call12_v2 : Ref sig .tc := ⟨.hbm, 210, rfl⟩
abbrev main_call12_v3 : Ref sig .tc := ⟨.hbm, 211, rfl⟩
abbrev main_call12_v4 : Ref sig .tc := ⟨.hbm, 212, rfl⟩
abbrev main_call12_v5 : Ref sig .tc := ⟨.hbm, 213, rfl⟩
abbrev main_call12_c_1 : Ref sig .tc := ⟨.hbm, 214, rfl⟩
abbrev main_call12_c_2 : Ref sig .tc := ⟨.hbm, 215, rfl⟩
abbrev main_call12_v6 : Ref sig .tc := ⟨.hbm, 216, rfl⟩
abbrev main_call12_v7 : Ref sig .tc := ⟨.hbm, 217, rfl⟩
abbrev main_call12_v8 : Ref sig .tc := ⟨.hbm, 218, rfl⟩
abbrev main_call12_v9 : Ref sig .tc := ⟨.hbm, 219, rfl⟩
abbrev main_call12_v10 : Ref sig .tc := ⟨.hbm, 220, rfl⟩
abbrev main_call12_v11 : Ref sig .tc := ⟨.hbm, 221, rfl⟩
abbrev main_call12_c_3 : Ref sig .tc := ⟨.hbm, 222, rfl⟩
abbrev main_call12_v12 : Ref sig .tc := ⟨.hbm, 223, rfl⟩
abbrev main_call12_v13 : Ref sig .tc := ⟨.hbm, 224, rfl⟩
abbrev main_call12_c_4 : Ref sig .tc := ⟨.hbm, 225, rfl⟩
abbrev main_call12_v14 : Ref sig .tc := ⟨.hbm, 226, rfl⟩
abbrev main_v38 : Ref sig .tc := ⟨.hbm, 227, rfl⟩
abbrev main_v39 : Ref sig .tc := ⟨.hbm, 228, rfl⟩
abbrev main_v40 : Ref sig .tc := ⟨.hbm, 229, rfl⟩
abbrev main_v41 : Ref sig .tc := ⟨.hbm, 230, rfl⟩
abbrev main_v42 : Ref sig .tc := ⟨.hbm, 231, rfl⟩
abbrev main_v43 : Ref sig .tc := ⟨.hbm, 232, rfl⟩
abbrev main_v44 : Ref sig .tc := ⟨.hbm, 233, rfl⟩
abbrev main_v45 : Ref sig .tc := ⟨.hbm, 234, rfl⟩
abbrev main_v46 : Ref sig .tc := ⟨.hbm, 235, rfl⟩
abbrev main_v47 : Ref sig .tc := ⟨.hbm, 236, rfl⟩
abbrev main_v48 : Ref sig .tc := ⟨.hbm, 237, rfl⟩
abbrev main_v49 : Ref sig .tc := ⟨.hbm, 238, rfl⟩
abbrev main_v50 : Ref sig .tc := ⟨.hbm, 239, rfl⟩
abbrev main_v51 : Ref sig .tc := ⟨.hbm, 240, rfl⟩
abbrev main_v52 : Ref sig .tc := ⟨.hbm, 241, rfl⟩
abbrev main_v53 : Ref sig .tc := ⟨.hbm, 242, rfl⟩
abbrev main_v54 : Ref sig .tc := ⟨.hbm, 243, rfl⟩
abbrev main_v55 : Ref sig .tc := ⟨.hbm, 244, rfl⟩
abbrev main_v56 : Ref sig .tc := ⟨.hbm, 245, rfl⟩
abbrev main_v57 : Ref sig .tc := ⟨.hbm, 246, rfl⟩
abbrev main_v58 : Ref sig .tc := ⟨.hbm, 247, rfl⟩
abbrev main_v59 : Ref sig .tc := ⟨.hbm, 248, rfl⟩
abbrev main_v60 : Ref sig .tc := ⟨.hbm, 249, rfl⟩
abbrev main_v61 : Ref sig .tc := ⟨.hbm, 250, rfl⟩
abbrev main_v62 : Ref sig .tc := ⟨.hbm, 251, rfl⟩
abbrev main_v63 : Ref sig .tc := ⟨.hbm, 252, rfl⟩
abbrev main_cst_13 : Ref sig .tc := ⟨.hbm, 253, rfl⟩
abbrev main_call13_v0 : Ref sig .tc := ⟨.hbm, 254, rfl⟩
abbrev main_call13_v1 : Ref sig .tc := ⟨.hbm, 255, rfl⟩
abbrev main_v64 : Ref sig .tc := ⟨.hbm, 256, rfl⟩
abbrev main_cst_14 : Ref sig .tc := ⟨.hbm, 257, rfl⟩
abbrev main_call14_v0 : Ref sig .tc := ⟨.hbm, 258, rfl⟩
abbrev main_call14_v1 : Ref sig .tc := ⟨.hbm, 259, rfl⟩
abbrev main_v65 : Ref sig .tc := ⟨.hbm, 260, rfl⟩
abbrev main_v66 : Ref sig .tc := ⟨.hbm, 261, rfl⟩
abbrev main_v67 : Ref sig .tc := ⟨.hbm, 262, rfl⟩
abbrev main_v68 : Ref sig .tc := ⟨.hbm, 263, rfl⟩
abbrev main_v69 : Ref sig .tc := ⟨.hbm, 264, rfl⟩
abbrev main_v70 : Ref sig .tc := ⟨.hbm, 265, rfl⟩
abbrev main_v71 : Ref sig .tc := ⟨.hbm, 266, rfl⟩
abbrev main_v72 : Ref sig .tc := ⟨.hbm, 267, rfl⟩
abbrev main_cst_15 : Ref sig .tc := ⟨.hbm, 268, rfl⟩
abbrev main_v73 : Ref sig .tc := ⟨.hbm, 269, rfl⟩
abbrev main_v74 : Ref sig .tc := ⟨.hbm, 270, rfl⟩
abbrev main_v75 : Ref sig .tc := ⟨.hbm, 271, rfl⟩
abbrev main_v76 : Ref sig .tc := ⟨.hbm, 272, rfl⟩
abbrev main_c : Ref sig .tc := ⟨.hbm, 273, rfl⟩
abbrev main_c_16 : Ref sig .tc := ⟨.hbm, 274, rfl⟩
abbrev main_v77_0 : Ref sig .tc := ⟨.hbm, 275, rfl⟩
abbrev main_v77_1 : Ref sig .tc := ⟨.hbm, 276, rfl⟩
abbrev main_v77_2 : Ref sig .tc := ⟨.hbm, 277, rfl⟩
abbrev main_v77_3 : Ref sig .tc := ⟨.hbm, 278, rfl⟩
abbrev main_v77_4 : Ref sig .tc := ⟨.hbm, 279, rfl⟩
abbrev main_while0c_c_24 : Ref sig .tc := ⟨.hbm, 280, rfl⟩
abbrev main_while0c_v88 : Ref sig .tc := ⟨.hbm, 281, rfl⟩
abbrev main_while0b_c_24 : Ref sig .tc := ⟨.hbm, 282, rfl⟩
abbrev main_while0b_v88 : Ref sig .tc := ⟨.hbm, 283, rfl⟩
abbrev main_while0b_c_25 : Ref sig .tc := ⟨.hbm, 284, rfl⟩
abbrev main_while0b_v89 : Ref sig .tc := ⟨.hbm, 285, rfl⟩
abbrev main_while0b_v90 : Ref sig .tc := ⟨.hbm, 286, rfl⟩
abbrev main_while0b_c_26 : Ref sig .tc := ⟨.hbm, 287, rfl⟩
abbrev main_while0b_v91 : Ref sig .tc := ⟨.hbm, 288, rfl⟩
abbrev main_while0b_v92 : Ref sig .tc := ⟨.hbm, 289, rfl⟩
abbrev main_while0b_c_27 : Ref sig .tc := ⟨.hbm, 290, rfl⟩
abbrev main_while0b_c_28 : Ref sig .tc := ⟨.hbm, 291, rfl⟩
abbrev main_while0b_v93 : Ref sig .tc := ⟨.hbm, 292, rfl⟩
abbrev main_while0b_v94 : Ref sig .tc := ⟨.hbm, 293, rfl⟩
abbrev main_while0b_cst_29 : Ref sig .tc := ⟨.hbm, 294, rfl⟩
abbrev main_while0b_v95 : Ref sig .tc := ⟨.hbm, 295, rfl⟩
abbrev main_while0b_v96 : Ref sig .tc := ⟨.hbm, 296, rfl⟩
abbrev main_while0b_v97 : Ref sig .tc := ⟨.hbm, 297, rfl⟩
abbrev main_while0b_v98 : Ref sig .tc := ⟨.hbm, 298, rfl⟩
abbrev main_while0b_v99 : Ref sig .tc := ⟨.hbm, 299, rfl⟩
abbrev main_while0b_v100 : Ref sig .tc := ⟨.hbm, 300, rfl⟩
abbrev main_while0b_v101 : Ref sig .tc := ⟨.hbm, 301, rfl⟩
abbrev main_while0b_v102 : Ref sig .tc := ⟨.hbm, 302, rfl⟩
abbrev main_while0b_v103 : Ref sig .tc := ⟨.hbm, 303, rfl⟩
abbrev main_while0b_c_30 : Ref sig .tc := ⟨.hbm, 304, rfl⟩
abbrev main_while0b_v104 : Ref sig .tc := ⟨.hbm, 305, rfl⟩
abbrev main_while0b_v105 : Ref sig .tc := ⟨.hbm, 306, rfl⟩
abbrev main_while0b_c_31 : Ref sig .tc := ⟨.hbm, 307, rfl⟩
abbrev main_while0b_v106 : Ref sig .tc := ⟨.hbm, 308, rfl⟩
abbrev main_while0b_v107 : Ref sig .tc := ⟨.hbm, 309, rfl⟩
abbrev main_while0b_c_32 : Ref sig .tc := ⟨.hbm, 310, rfl⟩
abbrev main_while0b_v108 : Ref sig .tc := ⟨.hbm, 311, rfl⟩
abbrev main_while0b_v109 : Ref sig .tc := ⟨.hbm, 312, rfl⟩
abbrev main_while0b_c_33 : Ref sig .tc := ⟨.hbm, 313, rfl⟩
abbrev main_while0b_v110 : Ref sig .tc := ⟨.hbm, 314, rfl⟩
abbrev main_while0b_v111 : Ref sig .tc := ⟨.hbm, 315, rfl⟩
abbrev main_while0b_v112 : Ref sig .tc := ⟨.hbm, 316, rfl⟩
abbrev main_while0b_c_34 : Ref sig .tc := ⟨.hbm, 317, rfl⟩
abbrev main_while0b_v113 : Ref sig .tc := ⟨.hbm, 318, rfl⟩
abbrev main_while0b_v114 : Ref sig .tc := ⟨.hbm, 319, rfl⟩
abbrev main_while0b_c_35 : Ref sig .tc := ⟨.hbm, 320, rfl⟩
abbrev main_while0b_v115 : Ref sig .tc := ⟨.hbm, 321, rfl⟩
abbrev main_while0b_v116 : Ref sig .tc := ⟨.hbm, 322, rfl⟩
abbrev main_while0b_c_36 : Ref sig .tc := ⟨.hbm, 323, rfl⟩
abbrev main_while0b_v117 : Ref sig .tc := ⟨.hbm, 324, rfl⟩
abbrev main_while0b_c_37 : Ref sig .tc := ⟨.hbm, 325, rfl⟩
abbrev main_while0b_v118 : Ref sig .tc := ⟨.hbm, 326, rfl⟩
abbrev main_cst_17 : Ref sig .tc := ⟨.hbm, 327, rfl⟩
abbrev main_call15_v0 : Ref sig .tc := ⟨.hbm, 328, rfl⟩
abbrev main_call15_v1 : Ref sig .tc := ⟨.hbm, 329, rfl⟩
abbrev main_v78 : Ref sig .tc := ⟨.hbm, 330, rfl⟩
abbrev main_values_18 : Ref sig .tc := ⟨.hbm, 331, rfl⟩
abbrev main_indices_19 : Ref sig .tc := ⟨.hbm, 332, rfl⟩
abbrev main_v79 : Ref sig .tc := ⟨.hbm, 333, rfl⟩
abbrev main_v80 : Ref sig .tc := ⟨.hbm, 334, rfl⟩
abbrev main_v81 : Ref sig .tc := ⟨.hbm, 335, rfl⟩
abbrev main_v82 : Ref sig .tc := ⟨.hbm, 336, rfl⟩
abbrev main_v83 : Ref sig .tc := ⟨.hbm, 337, rfl⟩
abbrev main_v84 : Ref sig .tc := ⟨.hbm, 338, rfl⟩
abbrev main_call16_c : Ref sig .tc := ⟨.hbm, 339, rfl⟩
abbrev main_call16_v0 : Ref sig .tc := ⟨.hbm, 340, rfl⟩
abbrev main_call16_v1 : Ref sig .tc := ⟨.hbm, 341, rfl⟩
abbrev main_call16_c_0 : Ref sig .tc := ⟨.hbm, 342, rfl⟩
abbrev main_call16_v2 : Ref sig .tc := ⟨.hbm, 343, rfl⟩
abbrev main_call16_v3 : Ref sig .tc := ⟨.hbm, 344, rfl⟩
abbrev main_call16_v4 : Ref sig .tc := ⟨.hbm, 345, rfl⟩
abbrev main_call16_c_1 : Ref sig .tc := ⟨.hbm, 346, rfl⟩
abbrev main_call16_c_2 : Ref sig .tc := ⟨.hbm, 347, rfl⟩
abbrev main_call16_v5 : Ref sig .tc := ⟨.hbm, 348, rfl⟩
abbrev main_call16_v6 : Ref sig .tc := ⟨.hbm, 349, rfl⟩
abbrev main_call16_v7 : Ref sig .tc := ⟨.hbm, 350, rfl⟩
abbrev main_call16_v8 : Ref sig .tc := ⟨.hbm, 351, rfl⟩
abbrev main_call16_v9 : Ref sig .tc := ⟨.hbm, 352, rfl⟩
abbrev main_call16_v10 : Ref sig .tc := ⟨.hbm, 353, rfl⟩
abbrev main_call16_c_3 : Ref sig .tc := ⟨.hbm, 354, rfl⟩
abbrev main_call16_v11 : Ref sig .tc := ⟨.hbm, 355, rfl⟩
abbrev main_call16_v12 : Ref sig .tc := ⟨.hbm, 356, rfl⟩
abbrev main_call16_v13 : Ref sig .tc := ⟨.hbm, 357, rfl⟩
abbrev main_call16_cst : Ref sig .tc := ⟨.hbm, 358, rfl⟩
abbrev main_call16_v14 : Ref sig .tc := ⟨.hbm, 359, rfl⟩
abbrev main_v85 : Ref sig .tc := ⟨.hbm, 360, rfl⟩
abbrev main_v86 : Ref sig .tc := ⟨.hbm, 361, rfl⟩
abbrev main_v87 : Ref sig .tc := ⟨.hbm, 362, rfl⟩

abbrev nD : Nat := 1
abbrev τ : Topo := Topo.v7x

variable {F : FTy → Type} [FloatOps F]

abbrev main_while0_count : Scf.Loop 32 := ⟨0#32, 2000#32, 1#32⟩
-- ==== Proof.RunIdeal.lean ====
/-
  The run of the kernel: what one grid point of its pipeline computes, and what the whole program leaves.

  A grid point reads its twelve blocks and the keep bits of the earlier tiles (the scratch buffer), computes a first
  guess of the tile's keep bits, improves it in a loop of at most 128 trips, stores the outcome over the tile's rows of
  the scratch buffer and in the result's block. The loop is `loopRes`, the outcome `tileKeep`, the scratch buffer
  before each point `scrAt`. Everything here is for any number format.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.FrameSuffix
public import Idealize.ShloMosaic.Lib.VecWindow

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The variants of the kernel's own labels: how many trips a loop may still make. -/
abbrev 𝒱₀ : Variants := Variants.nat

/-! ### What a grid point computes -/

/-- The loop from the guess `k`, with `n` trips left: it stops when the last trip changed nothing. -/
def loopRes (s : FVec F S4x128x128 .f32) (b : FVec F S4x128x1 .f32) : ℕ → FVec F S4x128x1 .f32 → BitVec 1 → FVec F S4x128x1 .f32
  | 0, k, _ => k
  | n + 1, k, ch => if ch = 1#1 then
      loopRes s b n (k0_pay2 s b k) (Scalar.cmpf .ogt (k0_pay3 s b k) (Scalar.ofBits .f32 0x00000000#32)) else k

/-- Which earlier boxes of its own tile a box overlaps. -/
abbrev tileS (r1 r2 r3 r4 : FVec F S4x128x1 .f32) (t1 t2 t3 t4 : FVec F S4x1x1x128 .f32) : FVec F S4x128x128 .f32 :=
  k0_pay25 (k0_pay9 r1) (k0_pay10 r2) (k0_pay11 r3) (k0_pay12 r4) (k0_pay15 (k0_pay13 t1)) (k0_pay16 (k0_pay14 t2)) (k0_pay17 t3) (k0_pay18 t4)
    (k0_pay19 (k0_pay9 r1) (k0_pay10 r2) (k0_pay11 r3) (k0_pay12 r4)) (k0_pay20 (k0_pay13 t1) (k0_pay14 t2) t3 t4)

/-- The first guess: a box no kept box of an earlier tile overlaps. -/
abbrev tileB (c1 c2 c3 c4 : FVec F S4x1x2048 .f32) (r1 r2 r3 r4 : FVec F S4x128x1 .f32) (scr : FVec F S4x2048x1 .f32) : FVec F S4x128x1 .f32 :=
  k0_pay24 (k0_pay21 (k0_pay5 c1) (k0_pay6 c2) (k0_pay7 c3) (k0_pay8 c4) (k0_pay9 r1) (k0_pay10 r2) (k0_pay11 r3) (k0_pay12 r4)) k0_pay22 k0_pay23 scr

/-- The tile's keep bits. -/
def tileKeep (c1 c2 c3 c4 : FVec F S4x1x2048 .f32) (r1 r2 r3 r4 : FVec F S4x128x1 .f32) (t1 t2 t3 t4 : FVec F S4x1x1x128 .f32)
    (scr : FVec F S4x2048x1 .f32) : FVec F S4x128x1 .f32 :=
  loopRes (tileS r1 r2 r3 r4 t1 t2 t3 t4) (tileB c1 c2 c3 c4 r1 r2 r3 r4 scr) 128 (tileB c1 c2 c3 c4 r1 r2 r3 r4 scr) 1#1

/-- The scratch buffer as a grid point uses it: zeroed at the first point, else as found. -/
def scrIn (i : grid0.Coords) (f : FVec F S4x2048x1 .f32) : FVec F S4x2048x1 .f32 :=
  if Scalar.cmpi .ne (Scalar.extui (Scalar.cmpi .eq (BitVec.ofNat 32 (i 0).val) 0#32)) 0#32 = 1#1 then k0_pay4 else f

/-- The scratch buffer with the tile's rows replaced. -/
def scrOut (i : grid0.Coords) (f : FVec F S4x2048x1 .f32) (k : FVec F S4x128x1 .f32) : FVec F S4x2048x1 .f32 :=
  ((Memref.whole cc0_scratch0).access (Rect.unit (s := S4x2048x1) (k0_off1 i) S4x128x1.size (k0_off1_inb i)) : View sig .tc _ _ _).write
    (Elt F) f (k0_pay1 k) Finset.univ

/-! ### The loop's label -/

/-- What a call of the loop's label with `n` trips left returns; it touches no memory. -/
def spec (s : FVec F S4x128x128 .f32) (b : FVec F S4x128x1 .f32) (n : ℕ) (k : FVec F S4x128x1 .f32) (ch : BitVec 1) :
    sWPT 𝕄 (FVec F S4x128x1 .f32 × BitVec 1 × BitVec 32) := do
  let r ← sWPT.arbitrary
  sWPT.assume (r.1 = loopRes s b n k ch)
  pure r

theorem spec_apply (s : FVec F S4x128x128 .f32) (b : FVec F S4x128x1 .f32) (n : ℕ) (k : FVec F S4x128x1 .f32) (ch : BitVec 1)
    (K : FVec F S4x128x1 .f32 × BitVec 1 × BitVec 32 → sProp 𝕄) :
    spec s b n k ch K = iprop(∀ r : FVec F S4x128x1 .f32 × BitVec 1 × BitVec 32, ⌜r.1 = loopRes s b n k ch⌝ -∗ K r) := rfl

/-- The loop's counter goes on while it is below 128. -/
theorem slt_counter {j : ℕ} (h : j ≤ 128) : (Scalar.cmpi .slt (BitVec.ofNat 32 j) 128#32 = 1#1) ↔ j < 128 := by
  have : ∀ j : Fin 129, (Scalar.cmpi .slt (BitVec.ofNat 32 j.val) 128#32 = 1#1) ↔ j.val < 128 := by decide
  exact this ⟨j, by omega⟩

theorem andi_one (a b : BitVec 1) : (Scalar.andi a b = 1#1) ↔ a = 1#1 ∧ b = 1#1 := by revert a b; decide

theorem addi_counter (j : ℕ) : Scalar.addi (BitVec.ofNat 32 j) 1#32 = BitVec.ofNat 32 (j + 1) := by
  rw [BitVec.ofNat_add]; rfl

theorem spec_le (c : Dev nD) (i : grid0.Coords) (s : FVec F S4x128x128 .f32) (b : FVec F S4x128x1 .f32) (E : Set ℕ) :
    ∀ n j, j + n = 128 → ∀ k ch K, spec s b n k ch K
      ⊢ wp frame (wpE (defs₀ (F := F)) 𝒱₀ (c : Thread nD τ) (some n)) E
          (defs₀ (F := F) .tc 1 ⟨i, s, b, k, ch, BitVec.ofNat 32 j⟩) K := by
  intro n
  induction n with
  | zero =>
    intro j hj k ch K
    rw [spec_apply]
    show _ ⊢ wp frame (wpE (defs₀ (F := F)) 𝒱₀ (c : Thread nD τ) (some 0)) E (cc0_while1 i s b k ch (BitVec.ofNat 32 j)) K
    rw [cc0_while1_eq_skeleton]; unfold cc0_while1_skel
    have ht : ¬Scalar.andi ch (Scalar.cmpi .slt (BitVec.ofNat 32 j) 128#32) = 1#1 := by
      rw [andi_one, slt_counter (by omega)]; omega
    simp only [ht, ↓reduceIte, Prog.pure_eq_ret]
    iintro Hk
    rw [wp_ret]; imodintro
    iapply Hk
    ipureintro; rfl
  | succ n ih =>
    intro j hj k ch K
    rw [spec_apply]
    show _ ⊢ wp frame (wpE (defs₀ (F := F)) 𝒱₀ (c : Thread nD τ) (some (n + 1))) E (cc0_while1 i s b k ch (BitVec.ofNat 32 j)) K
    rw [cc0_while1_eq_skeleton]; unfold cc0_while1_skel
    by_cases hch : ch = 1#1
    · have ht : Scalar.andi ch (Scalar.cmpi .slt (BitVec.ofNat 32 j) 128#32) = 1#1 := by
        rw [andi_one, slt_counter (by omega)]; exact ⟨hch, by omega⟩
      simp only [ht, ↓reduceIte, Prog.lift, Prog.pure_eq_ret]
      rw [addi_counter]
      iintro Hk
      iapply (wp_call_spec 𝒱₀ (c : Thread nD τ) (some (n + 1)) E
        (spec s b n (k0_pay2 s b k) (Scalar.cmpf .ogt (k0_pay3 s b k) (Scalar.ofBits .f32 0x00000000#32))) n
        (fun u hu => by cases hu; exact Nat.lt_succ_self n) (ih (j + 1) (by omega) _ _))
      rw [spec_apply]
      iintro %r %hr
      rw [wp_ret]; imodintro
      iapply Hk
      ipureintro
      rw [hr, loopRes, if_pos hch]
    · have ht : ¬Scalar.andi ch (Scalar.cmpi .slt (BitVec.ofNat 32 j) 128#32) = 1#1 := by
        rw [andi_one]; exact fun h => hch h.1
      simp only [ht, ↓reduceIte, Prog.pure_eq_ret]
      iintro Hk
      rw [wp_ret]; imodintro
      iapply Hk
      ipureintro
      rw [loopRes, if_neg hch]

/-! ### One grid point -/

/-- A load of all of a buffer reads its contents. -/
theorem load_full {sp : Space} {sh : Shape} {e : EltTy} (m : Memref sig .tc sp sh e) {off : Fin sh.rank → ℕ} (inb : ∀ a, off a + sh.size a ≤ sh.size a)
    (f : m.view.ty.Contents (Elt F)) : m.view.readAt (Elt F) (Rect.unit off sh.size inb).toLoadRect f = m.view.read (Elt F) f :=
  View.readAt_full m.view f inb

/-- A store of all of a buffer leaves the stored value. -/
theorem store_full {sp : Space} {sh : Shape} {e : EltTy} (m : Memref sig .tc sp sh e) {off : Fin sh.rank → ℕ} (inb : ∀ a, off a + sh.size a ≤ sh.size a)
    (f : m.view.ty.Contents (Elt F)) (w : sh.Idx → Elt F e) :
    m.view.read (Elt F) ((m.access (Rect.unit off sh.size inb)).write (Elt F) f w Finset.univ) = w :=
  View.read_writes_full m.view f inb w []

theorem write_scr (f w : (cc0_scratch0 : Ref sig .tc).ty.Contents (Elt F)) :
    ((Memref.whole cc0_scratch0).access (Rect.unit (s := S4x2048x1) ![0, 0, 0] S4x2048x1.size inb_S4x2048x1_S4x2048x1_0_0_0) : View sig .tc _ _ _).write
      (Elt F) f w Finset.univ = w :=
  Memref.write_access_unit_zero_univ (Elt F) cc0_scratch0 (funext fun a => by fin_cases a <;> rfl) _ f w

theorem read_scr (f : (cc0_scratch0 : Ref sig .tc).ty.Contents (Elt F)) :
    ((Memref.whole cc0_scratch0).view.readAt (Elt F) (Rect.unit (s := S4x2048x1) ![0, 0, 0] S4x2048x1.size inb_S4x2048x1_S4x2048x1_0_0_0).toLoadRect f
      : FVec F S4x2048x1 .f32) = f :=
  (load_full (Memref.whole cc0_scratch0) _ f).trans rfl

/-- What a grid point leaves: the blocks it read as they were, its keep bits in the result's block and in its rows of the scratch buffer. -/
def kernelPost (c : Dev nD) (i : grid0.Coords) (a1 : Memref sig .tc .vmem S4x1x2048 .f32) (a2 : Memref sig .tc .vmem S4x1x2048 .f32) (a3 : Memref sig .tc .vmem S4x1x2048 .f32) (a4 : Memref sig .tc .vmem S4x1x2048 .f32) (a5 : Memref sig .tc .vmem S4x128x1 .f32) (a6 : Memref sig .tc .vmem S4x128x1 .f32) (a7 : Memref sig .tc .vmem S4x128x1 .f32) (a8 : Memref sig .tc .vmem S4x128x1 .f32) (a9 : Memref sig .tc .vmem S4x1x1x128 .f32) (a10 : Memref sig .tc .vmem S4x1x1x128 .f32) (a11 : Memref sig .tc .vmem S4x1x1x128 .f32) (a12 : Memref sig .tc .vmem S4x1x1x128 .f32) (a13 : Memref sig .tc .vmem S4x128x1 .f32)
    (X1 X2 X3 X4 : FVec F S4x1x2048 .f32) (X5 X6 X7 X8 : FVec F S4x128x1 .f32) (X9 X10 X11 X12 : FVec F S4x1x1x128 .f32) (g : FVec F S4x2048x1 .f32) : sProp 𝕄 :=
  iprop(owns (c : Thread nD τ) a1 fullShare X1
      ∗ owns (c : Thread nD τ) a2 fullShare X2
      ∗ owns (c : Thread nD τ) a3 fullShare X3
      ∗ owns (c : Thread nD τ) a4 fullShare X4
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare X9
      ∗ owns (c : Thread nD τ) a10 fullShare X10
      ∗ owns (c : Thread nD τ) a11 fullShare X11
      ∗ owns (c : Thread nD τ) a12 fullShare X12
      ∗ owns (c : Thread nD τ) a13 fullShare (tileKeep X1 X2 X3 X4 X5 X6 X7 X8 X9 X10 X11 X12 g)
      ∗ (((c : Thread nD τ).loc cc0_scratch0) ↦{fullShare} (scrOut i g (tileKeep X1 X2 X3 X4 X5 X6 X7 X8 X9 X10 X11 X12 g))))

set_option maxHeartbeats 2000000 in
theorem sound_kernel (c : Dev nD) (i : grid0.Coords) (a1 : Memref sig .tc .vmem S4x1x2048 .f32) (a2 : Memref sig .tc .vmem S4x1x2048 .f32) (a3 : Memref sig .tc .vmem S4x1x2048 .f32) (a4 : Memref sig .tc .vmem S4x1x2048 .f32) (a5 : Memref sig .tc .vmem S4x128x1 .f32) (a6 : Memref sig .tc .vmem S4x128x1 .f32) (a7 : Memref sig .tc .vmem S4x128x1 .f32) (a8 : Memref sig .tc .vmem S4x128x1 .f32) (a9 : Memref sig .tc .vmem S4x1x1x128 .f32) (a10 : Memref sig .tc .vmem S4x1x1x128 .f32) (a11 : Memref sig .tc .vmem S4x1x1x128 .f32) (a12 : Memref sig .tc .vmem S4x1x1x128 .f32) (a13 : Memref sig .tc .vmem S4x128x1 .f32)
    (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole)
    (X1 X2 X3 X4 : FVec F S4x1x2048 .f32) (X5 X6 X7 X8 : FVec F S4x128x1 .f32) (X9 X10 X11 X12 : FVec F S4x1x1x128 .f32) (g : FVec F S4x2048x1 .f32) (K : PUnit → sProp 𝕄) :
    iprop(owns (c : Thread nD τ) a1 fullShare X1
      ∗ owns (c : Thread nD τ) a2 fullShare X2
      ∗ owns (c : Thread nD τ) a3 fullShare X3
      ∗ owns (c : Thread nD τ) a4 fullShare X4
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare X9
      ∗ owns (c : Thread nD τ) a10 fullShare X10
      ∗ owns (c : Thread nD τ) a11 fullShare X11
      ∗ owns (c : Thread nD τ) a12 fullShare X12
      ∗ (∃ Y, owns (c : Thread nD τ) a13 fullShare Y)
      ∗ (((c : Thread nD τ).loc cc0_scratch0) ↦{fullShare} g)
      ∗ (kernelPost c i a1 a2 a3 a4 a5 a6 a7 a8 a9 a10 a11 a12 a13 X1 X2 X3 X4 X5 X6 X7 X8 X9 X10 X11 X12 (scrIn i g) -∗ K ⟨⟩))
      ⊢ wp frame (wpE (defs₀ (F := F)) 𝒱₀ c none) Set.univ
          (cc0__nms_tile_kernel i a1 h1 a2 h2 a3 h3 a4 h4 a5 h5 a6 h6 a7 h7 a8 h8 a9 h9 a10 h10 a11 h11 a12 h12 a13 h13 (Memref.whole cc0_scratch0) (Memref.isWhole_whole _)) K := by
  rw [cc0__nms_tile_kernel_eq_skeleton]; unfold cc0__nms_tile_kernel_skel
  rw [k0_part1_eq_skeleton, k0_part2_eq_skeleton, k0_part3_eq_skeleton]
  unfold k0_part1_skel k0_part2_skel k0_part3_skel
  simp only [Prog.lift, Prog.bind_op, Prog.bind_ret, Prog.pure_eq_ret]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%Y, %f13, %e13, H13⟩, Hs, Hk⟩
  by_cases h0 : Scalar.cmpi .ne (Scalar.extui (Scalar.cmpi .eq (BitVec.ofNat 32 (i 0).val) 0#32)) 0#32 = 1#1
  case' pos =>
    rw [dif_pos h0]
    have hin : scrIn i g = k0_pay4 := if_pos h0
    rw [hin]
    simp only [Prog.lift, Prog.bind_op, Prog.bind_ret, Prog.pure_eq_ret]
    iapply (wp_load 𝒱₀ (c : Thread nD τ) none Set.univ (m := Memref.whole cc0_scratch0) (Finset.subset_univ _)) $$ Hs; iintro Hs
    iapply (wp_store 𝒱₀ (c : Thread nD τ) none Set.univ (m := Memref.whole cc0_scratch0) (r := Rect.unit (s := S4x2048x1) ![0, 0, 0] S4x2048x1.size inb_S4x2048x1_S4x2048x1_0_0_0) (Mk := Finset.univ) (Finset.subset_univ _)) $$ Hs; iintro Hs
    rw [write_scr]
    generalize (k0_pay4 : FVec F S4x2048x1 .f32) = g'
  case' neg =>
    rw [dif_neg h0]
    have hin : scrIn i g = g := if_neg h0
    rw [hin]
    simp only [Prog.lift, Prog.bind_op, Prog.bind_ret, Prog.pure_eq_ret]
    generalize g = g'
  all_goals
    iapply (wp_load 𝒱₀ (c : Thread nD τ) none Set.univ (m := a1) (View.setOn_subset_set _ _)) $$ H1; iintro H1
    rw [load_full]; rw [e1]
    iapply (wp_load 𝒱₀ (c : Thread nD τ) none Set.univ (m := a2) (View.setOn_subset_set _ _)) $$ H2; iintro H2
    rw [load_full]; rw [e2]
    iapply (wp_load 𝒱₀ (c : Thread nD τ) none Set.univ (m := a3) (View.setOn_subset_set _ _)) $$ H3; iintro H3
    rw [load_full]; rw [e3]
    iapply (wp_load 𝒱₀ (c : Thread nD τ) none Set.univ (m := a4) (View.setOn_subset_set _ _)) $$ H4; iintro H4
    rw [load_full]; rw [e4]
    iapply (wp_load 𝒱₀ (c : Thread nD τ) none Set.univ (m := a5) (View.setOn_subset_set _ _)) $$ H5; iintro H5
    rw [load_full]; rw [e5]
    iapply (wp_load 𝒱₀ (c : Thread nD τ) none Set.univ (m := a6) (View.setOn_subset_set _ _)) $$ H6; iintro H6
    rw [load_full]; rw [e6]
    iapply (wp_load 𝒱₀ (c : Thread nD τ) none Set.univ (m := a7) (View.setOn_subset_set _ _)) $$ H7; iintro H7
    rw [load_full]; rw [e7]
    iapply (wp_load 𝒱₀ (c : Thread nD τ) none Set.univ (m := a8) (View.setOn_subset_set _ _)) $$ H8; iintro H8
    rw [load_full]; rw [e8]
    iapply (wp_load 𝒱₀ (c : Thread nD τ) none Set.univ (m := a9) (View.setOn_subset_set _ _)) $$ H9; iintro H9
    rw [load_full]; rw [e9]
    iapply (wp_load 𝒱₀ (c : Thread nD τ) none Set.univ (m := a10) (View.setOn_subset_set _ _)) $$ H10; iintro H10
    rw [load_full]; rw [e10]
    iapply (wp_load 𝒱₀ (c : Thread nD τ) none Set.univ (m := a11) (View.setOn_subset_set _ _)) $$ H11; iintro H11
    rw [load_full]; rw [e11]
    iapply (wp_load 𝒱₀ (c : Thread nD τ) none Set.univ (m := a12) (View.setOn_subset_set _ _)) $$ H12; iintro H12
    rw [load_full]; rw [e12]
    iapply (wp_load 𝒱₀ (c : Thread nD τ) none Set.univ (m := Memref.whole cc0_scratch0) (Finset.subset_univ _)) $$ Hs; iintro Hs
    rw [read_scr]
    iapply (wp_call_spec 𝒱₀ (c : Thread nD τ) none Set.univ
      (spec (tileS X5 X6 X7 X8 X9 X10 X11 X12) (tileB X1 X2 X3 X4 X5 X6 X7 X8 g') 128 (tileB X1 X2 X3 X4 X5 X6 X7 X8 g') 1#1) 128
      (fun u hu => nomatch hu) (spec_le c i _ _ Set.univ 128 0 rfl _ _))
    rw [spec_apply]
    iintro %r %hr
    iapply (wp_load 𝒱₀ (c : Thread nD τ) none Set.univ (m := Memref.whole cc0_scratch0) (Finset.subset_univ _)) $$ Hs; iintro Hs
    iapply (wp_store 𝒱₀ (c : Thread nD τ) none Set.univ (m := Memref.whole cc0_scratch0) (r := Rect.unit (s := S4x2048x1) (k0_off1 i) S4x128x1.size (k0_off1_inb i)) (Mk := Finset.univ) (Finset.subset_univ _)) $$ Hs; iintro Hs
    iapply (wp_load 𝒱₀ (c : Thread nD τ) none Set.univ (m := a13) (View.setOn_subset_set _ _)) $$ H13; iintro H13
    iapply (wp_store 𝒱₀ (c : Thread nD τ) none Set.univ (m := a13) (r := Rect.unit (s := S4x128x1) ![0, 0, 0] S4x128x1.size inb_S4x128x1_S4x128x1_0_0_0) (Mk := Finset.univ) ((View.setOn_subset_set _ _).trans (View.set_slice_subset a13.view _))) $$ H13; iintro H13
    rw [wp_ret]; imodintro
    iapply Hk
    unfold kernelPost owns
    have hr' : r.1 = tileKeep X1 X2 X3 X4 X5 X6 X7 X8 X9 X10 X11 X12 g' := hr
    isplitl [H1]
    · iexists _; isplitr; · (ipureintro; exact e1)
      iexact H1
    isplitl [H2]
    · iexists _; isplitr; · (ipureintro; exact e2)
      iexact H2
    isplitl [H3]
    · iexists _; isplitr; · (ipureintro; exact e3)
      iexact H3
    isplitl [H4]
    · iexists _; isplitr; · (ipureintro; exact e4)
      iexact H4
    isplitl [H5]
    · iexists _; isplitr; · (ipureintro; exact e5)
      iexact H5
    isplitl [H6]
    · iexists _; isplitr; · (ipureintro; exact e6)
      iexact H6
    isplitl [H7]
    · iexists _; isplitr; · (ipureintro; exact e7)
      iexact H7
    isplitl [H8]
    · iexists _; isplitr; · (ipureintro; exact e8)
      iexact H8
    isplitl [H9]
    · iexists _; isplitr; · (ipureintro; exact e9)
      iexact H9
    isplitl [H10]
    · iexists _; isplitr; · (ipureintro; exact e10)
      iexact H10
    isplitl [H11]
    · iexists _; isplitr; · (ipureintro; exact e11)
      iexact H11
    isplitl [H12]
    · iexists _; isplitr; · (ipureintro; exact e12)
      iexact H12
    isplitl [H13]
    · iexists _; isplitr; swap; · iexact H13
      ipureintro; rw [← hr']; exact store_full a13 _ _ _
    rw [← hr']
    iexact Hs

end Cert.Proof.KI

end
-- ==== Proof.PipeIdeal.lean ====
/-
  The pipeline of the kernel around one grid point: what each window's buffer holds there, the scratch buffer from
  point to point, and the run of the whole program.
-/
module

public import proofs.«01_k».proof.Proof.RunIdeal

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

/-- The lines of the program before the kernel. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- The lines after it. -/
abbrev post : List (List (HloOp τ sig (Elt F))) := [hostOps1, hostOps1_1, hostOps1_2, hostOps1_3, hostOps1_4]

section Point

variable (V : Valuation τ sig (Elt F))

/-- The block window `w` reads at point `t`, the buffers being at `V`. -/
def blkIn (w : Fin 13) (t : Fin (cfg0 (F := F)).N) : (((cfg0 (F := F)).win w).xblock ((cfg0 (F := F)).grid.coords t)).Idx → Elt F ((cfg0 (F := F)).win w).elt :=
  (((cfg0 (F := F)).win w).blk t).view.read (Elt F) (V (Proc.devRef .tc (Pipeline.arrRef spec0 w)))

/-- The keep bits point `t` computes, the scratch buffer being at `g`. -/
def keepAt (t : Fin (cfg0 (F := F)).N) (g : FVec F S4x2048x1 .f32) : FVec F S4x128x1 .f32 :=
  tileKeep (blkIn V 0 t) (blkIn V 1 t) (blkIn V 2 t) (blkIn V 3 t) (blkIn V 4 t) (blkIn V 5 t) (blkIn V 6 t) (blkIn V 7 t) (blkIn V 8 t) (blkIn V 9 t) (blkIn V 10 t) (blkIn V 11 t) g

/-- The scratch buffer before point `n`. -/
def scrAt : ℕ → FVec F S4x2048x1 .f32
  | 0 => k0_pay4
  | n + 1 => if h : n < (cfg0 (F := F)).N then scrOut (grid0.coords ⟨n, h⟩) (scrAt n) (keepAt V ⟨n, h⟩ (scrAt n)) else scrAt n

theorem scrAt_succ (t : Fin (cfg0 (F := F)).N) :
    scrAt V (t.val + 1) = scrOut (grid0.coords t) (scrAt V t.val) (keepAt V t (scrAt V t.val)) := by
  rw [scrAt, dif_pos t.isLt]

/-- The kernel zeroes the scratch buffer at point 0 only. -/
theorem first_point : ∀ t : Fin grid0.N, (Scalar.cmpi .ne (Scalar.extui (Scalar.cmpi .eq (BitVec.ofNat 32 ((grid0.coords t) 0).val) 0#32)) 0#32 = 1#1)
    ↔ t.val = 0 := by decide +kernel

theorem scrIn_at (t : Fin (cfg0 (F := F)).N) (f : FVec F S4x2048x1 .f32) (h : t.val ≠ 0 → f = scrAt V t.val) :
    scrIn (grid0.coords t) f = scrAt V t.val := by
  unfold scrIn
  by_cases h0 : t.val = 0
  · rw [if_pos ((first_point t).mpr h0), h0]; rfl
  · rw [if_neg (fun hh => h0 ((first_point t).mp hh)), h h0]

end Point

variable (m : (ℓ : Loc nD τ sig) → Buf (Elt F) ℓ)

/-- Every buffer when the kernel starts: the lines before it, run from the launch contents. -/
def V₀ (c : Dev nD) : Valuation τ sig (Elt F) := StableHlo.after (pre (F := F)).flatten (fun b => m (c, b))

/-- The scratch buffer between two points: after point 0 at `scrAt`, before it at anything. -/
def scrHeld (c : Dev nD) (n : ℕ) : sProp 𝕄 :=
  iprop(∃ f : FVec F S4x2048x1 .f32, ⌜n ≠ 0 → f = scrAt (V₀ m c) n⌝ ∗ (((c : Thread nD τ).loc cc0_scratch0) ↦{fullShare} f))

/-- The proof data of the one pipeline. -/
def dats (_ : Fin 1) (c : Dev nD) : Dat τ (Elt F) Unit ℕ (UR sig nD τ) ℕ (cfg0 (F := F)) c where
  A w := V₀ m c (Proc.devRef .tc (Pipeline.arrRef spec0 w))
  after w t := match w with
    | ⟨0, _⟩ => blkIn (V₀ m c) 0 t
    | ⟨1, _⟩ => blkIn (V₀ m c) 1 t
    | ⟨2, _⟩ => blkIn (V₀ m c) 2 t
    | ⟨3, _⟩ => blkIn (V₀ m c) 3 t
    | ⟨4, _⟩ => blkIn (V₀ m c) 4 t
    | ⟨5, _⟩ => blkIn (V₀ m c) 5 t
    | ⟨6, _⟩ => blkIn (V₀ m c) 6 t
    | ⟨7, _⟩ => blkIn (V₀ m c) 7 t
    | ⟨8, _⟩ => blkIn (V₀ m c) 8 t
    | ⟨9, _⟩ => blkIn (V₀ m c) 9 t
    | ⟨10, _⟩ => blkIn (V₀ m c) 10 t
    | ⟨11, _⟩ => blkIn (V₀ m c) 11 t
    | ⟨12, _⟩ => keepAt (V₀ m c) t (scrAt (V₀ m c) t.val)
  Φ t := iprop(scrHeld m c t.val ∗ ∃ r, prngReg c r)
  q _ := fullShare
  owed _ := 0

theorem after_0 (c : Dev nD) (t : Fin (cfg0 (F := F)).N) : (dats m 0 c).after 0 t = blkIn (V₀ m c) 0 t := by dsimp only [dats]; rfl
theorem before_0 (c : Dev nD) (t : Fin (cfg0 (F := F)).N) (d) : (dats m 0 c).before 0 t d = blkIn (V₀ m c) 0 t :=
  (dats m 0 c).before_in_eq_fetched 0 rfl (fun _ => rfl) (fun _ _ _ => rfl) (fun _ => rfl) t d
theorem after_1 (c : Dev nD) (t : Fin (cfg0 (F := F)).N) : (dats m 0 c).after 1 t = blkIn (V₀ m c) 1 t := by dsimp only [dats]; rfl
theorem before_1 (c : Dev nD) (t : Fin (cfg0 (F := F)).N) (d) : (dats m 0 c).before 1 t d = blkIn (V₀ m c) 1 t :=
  (dats m 0 c).before_in_eq_fetched 1 rfl (fun _ => rfl) (fun _ _ _ => rfl) (fun _ => rfl) t d
theorem after_2 (c : Dev nD) (t : Fin (cfg0 (F := F)).N) : (dats m 0 c).after 2 t = blkIn (V₀ m c) 2 t := by dsimp only [dats]; rfl
theorem before_2 (c : Dev nD) (t : Fin (cfg0 (F := F)).N) (d) : (dats m 0 c).before 2 t d = blkIn (V₀ m c) 2 t :=
  (dats m 0 c).before_in_eq_fetched 2 rfl (fun _ => rfl) (fun _ _ _ => rfl) (fun _ => rfl) t d
theorem after_3 (c : Dev nD) (t : Fin (cfg0 (F := F)).N) : (dats m 0 c).after 3 t = blkIn (V₀ m c) 3 t := by dsimp only [dats]; rfl
theorem before_3 (c : Dev nD) (t : Fin (cfg0 (F := F)).N) (d) : (dats m 0 c).before 3 t d = blkIn (V₀ m c) 3 t :=
  (dats m 0 c).before_in_eq_fetched 3 rfl (fun _ => rfl) (fun _ _ _ => rfl) (fun _ => rfl) t d
theorem after_4 (c : Dev nD) (t : Fin (cfg0 (F := F)).N) : (dats m 0 c).after 4 t = blkIn (V₀ m c) 4 t := by dsimp only [dats]; rfl
theorem before_4 (c : Dev nD) (t : Fin (cfg0 (F := F)).N) (d) : (dats m 0 c).before 4 t d = blkIn (V₀ m c) 4 t :=
  (dats m 0 c).before_in_eq_fetched 4 rfl (fun _ => rfl) (fun _ _ _ => rfl) (fun _ => rfl) t d
theorem after_5 (c : Dev nD) (t : Fin (cfg0 (F := F)).N) : (dats m 0 c).after 5 t = blkIn (V₀ m c) 5 t := by dsimp only [dats]; rfl
theorem before_5 (c : Dev nD) (t : Fin (cfg0 (F := F)).N) (d) : (dats m 0 c).before 5 t d = blkIn (V₀ m c) 5 t :=
  (dats m 0 c).before_in_eq_fetched 5 rfl (fun _ => rfl) (fun _ _ _ => rfl) (fun _ => rfl) t d
theorem after_6 (c : Dev nD) (t : Fin (cfg0 (F := F)).N) : (dats m 0 c).after 6 t = blkIn (V₀ m c) 6 t := by dsimp only [dats]; rfl
theorem before_6 (c : Dev nD) (t : Fin (cfg0 (F := F)).N) (d) : (dats m 0 c).before 6 t d = blkIn (V₀ m c) 6 t :=
  (dats m 0 c).before_in_eq_fetched 6 rfl (fun _ => rfl) (fun _ _ _ => rfl) (fun _ => rfl) t d
theorem after_7 (c : Dev nD) (t : Fin (cfg0 (F := F)).N) : (dats m 0 c).after 7 t = blkIn (V₀ m c) 7 t := by dsimp only [dats]; rfl
theorem before_7 (c : Dev nD) (t : Fin (cfg0 (F := F)).N) (d) : (dats m 0 c).before 7 t d = blkIn (V₀ m c) 7 t :=
  (dats m 0 c).before_in_eq_fetched 7 rfl (fun _ => rfl) (fun _ _ _ => rfl) (fun _ => rfl) t d
theorem after_8 (c : Dev nD) (t : Fin (cfg0 (F := F)).N) : (dats m 0 c).after 8 t = blkIn (V₀ m c) 8 t := by dsimp only [dats]; rfl
theorem before_8 (c : Dev nD) (t : Fin (cfg0 (F := F)).N) (d) : (dats m 0 c).before 8 t d = blkIn (V₀ m c) 8 t :=
  (dats m 0 c).before_in_eq_fetched 8 rfl (fun _ => rfl) (fun _ _ _ => rfl) (fun _ => rfl) t d
theorem after_9 (c : Dev nD) (t : Fin (cfg0 (F := F)).N) : (dats m 0 c).after 9 t = blkIn (V₀ m c) 9 t := by dsimp only [dats]; rfl
theorem before_9 (c : Dev nD) (t : Fin (cfg0 (F := F)).N) (d) : (dats m 0 c).before 9 t d = blkIn (V₀ m c) 9 t :=
  (dats m 0 c).before_in_eq_fetched 9 rfl (fun _ => rfl) (fun _ _ _ => rfl) (fun _ => rfl) t d
theorem after_10 (c : Dev nD) (t : Fin (cfg0 (F := F)).N) : (dats m 0 c).after 10 t = blkIn (V₀ m c) 10 t := by dsimp only [dats]; rfl
theorem before_10 (c : Dev nD) (t : Fin (cfg0 (F := F)).N) (d) : (dats m 0 c).before 10 t d = blkIn (V₀ m c) 10 t :=
  (dats m 0 c).before_in_eq_fetched 10 rfl (fun _ => rfl) (fun _ _ _ => rfl) (fun _ => rfl) t d
theorem after_11 (c : Dev nD) (t : Fin (cfg0 (F := F)).N) : (dats m 0 c).after 11 t = blkIn (V₀ m c) 11 t := by dsimp only [dats]; rfl
theorem before_11 (c : Dev nD) (t : Fin (cfg0 (F := F)).N) (d) : (dats m 0 c).before 11 t d = blkIn (V₀ m c) 11 t :=
  (dats m 0 c).before_in_eq_fetched 11 rfl (fun _ => rfl) (fun _ _ _ => rfl) (fun _ => rfl) t d
theorem after_12 (c : Dev nD) (t : Fin (cfg0 (F := F)).N) :
    (dats m 0 c).after 12 t = keepAt (V₀ m c) t (scrAt (V₀ m c) t.val) := by dsimp only [dats]; rfl

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem bigSep_cfg (Φ : Fin (cfg0 (F := F)).W → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_W0 Φ

theorem body_obligation (c : Dev nD) : BodyObligation (dats (F := F) m 0 c) (defs₀ (F := F)) 𝒱₀ () Set.univ := fun t => by
  rw [bigSep_cfg, bigSep_cfg, defs₀_row]
  simp only [before_0]
  simp only [before_1]
  simp only [before_2]
  simp only [before_3]
  simp only [before_4]
  simp only [before_5]
  simp only [before_6]
  simp only [before_7]
  simp only [before_8]
  simp only [before_9]
  simp only [before_10]
  simp only [before_11]
  rw [after_0, after_1, after_2, after_3, after_4, after_5, after_6, after_7, after_8, after_9, after_10, after_11, after_12]
  rw [show (dats m 0 c).Φ t.castSucc = iprop(scrHeld m c t.val ∗ ∃ r, prngReg c r) from rfl,
    show (dats m 0 c).Φ t.succ = iprop(scrHeld m c (t.val + 1) ∗ ∃ r, prngReg c r) from rfl,
    show (dats m 0 c).owesAt () t.succ = (dats m 0 c).owesAt () t.castSucc from rfl]
  unfold scrHeld
  iintro ⟨⟨⟨%f, %hf, Hs⟩, Hp⟩, Hw, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c (grid0.coords t) _ _ _ _ _ _ _ _ _ _ _ _ _ _ _ _ _ _ _ _ _ _ _ _ _ _
    (blkIn (V₀ m c) 0 t) (blkIn (V₀ m c) 1 t) (blkIn (V₀ m c) 2 t) (blkIn (V₀ m c) 3 t) (blkIn (V₀ m c) 4 t) (blkIn (V₀ m c) 5 t) (blkIn (V₀ m c) 6 t) (blkIn (V₀ m c) 7 t) (blkIn (V₀ m c) 8 t) (blkIn (V₀ m c) 9 t) (blkIn (V₀ m c) 10 t) (blkIn (V₀ m c) 11 t) f)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [Hs]; · iexact Hs
  rw [scrIn_at (V₀ m c) t f hf]
  unfold kernelPost
  iintro ⟨H0, H1, H2, H3, H4, H5, H6, H7, H8, H9, H10, H11, H12, Hs⟩
  isplitl [Hs Hp]
  · isplitl [Hs]
    · iexists _; isplitr; swap; · iexact Hs
      ipureintro; exact fun _ => (scrAt_succ (V₀ m c) t).symm
    iexact Hp
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof.KI

end
-- ==== Proof.MainIdeal.lean ====
/-
  The whole program's run: the lines before the kernel, the kernel's pipeline, the lines after it. No line writes an
  argument of the program, and no line after the kernel writes a buffer the kernel reads or writes.
-/
module

public import proofs.«01_k».proof.Proof.PipeIdeal

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- A line writes one buffer, and none of `bad`. -/
def Spares (bad : List (Ref sig .tc)) (op : HloOp τ sig (Elt F)) : Prop :=
  ∃ r : Ref sig .tc, op.writes = {Proc.devRef .tc r} ∧ r ∉ bad

theorem Spares.not_mem {bad : List (Ref sig .tc)} {op : HloOp τ sig (Elt F)} (h : Spares bad op) {b : Ref sig .tc} (hb : b ∈ bad) :
    Proc.devRef .tc b ∉ op.writes := by
  obtain ⟨r, hr, hn⟩ := h
  rw [hr, Finset.mem_singleton]
  exact fun e => hn (Proc.devRef_injective _ e ▸ hb)

/-- The program's arguments. -/
abbrev args : List (Ref sig .tc) := [main_arg0, main_arg1]

/-- The arguments and the buffers the kernel's windows read and write. -/
abbrev kept : List (Ref sig .tc) := main_arg0 :: main_arg1 :: (List.finRange 13).map fun w => Pipeline.arrRef spec0 w

theorem hostOps0_fresh : ((hostOps0 : List (HloOp τ sig (Elt F))).Forall fun op => op.fresh = ∅) := ⟨rfl, rfl, rfl, rfl, rfl, rfl, rfl, rfl, rfl⟩
theorem hostOps0_spares : ((hostOps0 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_1_fresh : ((hostOps0_1 : List (HloOp τ sig (Elt F))).Forall fun op => op.fresh = ∅) := ⟨rfl, rfl, rfl, rfl, rfl, rfl, rfl, rfl, rfl, rfl, rfl, rfl, rfl, rfl, rfl, rfl, rfl, rfl, rfl, rfl, rfl, rfl⟩
theorem hostOps0_1_spares : ((hostOps0_1 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_2_fresh : ((hostOps0_2 : List (HloOp τ sig (Elt F))).Forall fun op => op.fresh = ∅) := ⟨rfl, rfl, rfl, rfl⟩
theorem hostOps0_2_spares : ((hostOps0_2 : List (HloOp τ sig (Elt F))).Forall (Spares args)) := ⟨⟨_, rfl, by decide⟩, ⟨_, rfl, by decide⟩, ⟨_, rfl, by decide⟩, ⟨_, rfl, by decide⟩⟩
theorem hostOps0_3_fresh : ((hostOps0_3 : List (HloOp τ sig (Elt F))).Forall fun op => op.fresh = ∅) := ⟨rfl, rfl, rfl, rfl, rfl, rfl⟩
theorem hostOps0_3_spares : ((hostOps0_3 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩⟩
theorem hostOps0_4_fresh : ((hostOps0_4 : List (HloOp τ sig (Elt F))).Forall fun op => op.fresh = ∅) := ⟨rfl, rfl, rfl, rfl⟩
theorem hostOps0_4_spares : ((hostOps0_4 : List (HloOp τ sig (Elt F))).Forall (Spares args)) := ⟨⟨_, rfl, by decide⟩, ⟨_, rfl, by decide⟩, ⟨_, rfl, by decide⟩, ⟨_, rfl, by decide⟩⟩
theorem hostOps0_5_fresh : ((hostOps0_5 : List (HloOp τ sig (Elt F))).Forall fun op => op.fresh = ∅) := ⟨rfl, rfl, rfl, rfl, rfl, rfl⟩
theorem hostOps0_5_spares : ((hostOps0_5 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩⟩
theorem hostOps0_6_fresh : ((hostOps0_6 : List (HloOp τ sig (Elt F))).Forall fun op => op.fresh = ∅) := ⟨rfl, rfl, rfl, rfl⟩
theorem hostOps0_6_spares : ((hostOps0_6 : List (HloOp τ sig (Elt F))).Forall (Spares args)) := ⟨⟨_, rfl, by decide⟩, ⟨_, rfl, by decide⟩, ⟨_, rfl, by decide⟩, ⟨_, rfl, by decide⟩⟩
theorem hostOps0_7_fresh : ((hostOps0_7 : List (HloOp τ sig (Elt F))).Forall fun op => op.fresh = ∅) := ⟨rfl, rfl, rfl, rfl, rfl, rfl⟩
theorem hostOps0_7_spares : ((hostOps0_7 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩⟩
theorem hostOps0_8_fresh : ((hostOps0_8 : List (HloOp τ sig (Elt F))).Forall fun op => op.fresh = ∅) := ⟨rfl, rfl, rfl, rfl⟩
theorem hostOps0_8_spares : ((hostOps0_8 : List (HloOp τ sig (Elt F))).Forall (Spares args)) := ⟨⟨_, rfl, by decide⟩, ⟨_, rfl, by decide⟩, ⟨_, rfl, by decide⟩, ⟨_, rfl, by decide⟩⟩
theorem hostOps0_9_fresh : ((hostOps0_9 : List (HloOp τ sig (Elt F))).Forall fun op => op.fresh = ∅) := ⟨rfl, rfl, rfl, rfl, rfl, rfl⟩
theorem hostOps0_9_spares : ((hostOps0_9 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩⟩
theorem hostOps0_10_fresh : ((hostOps0_10 : List (HloOp τ sig (Elt F))).Forall fun op => op.fresh = ∅) := ⟨rfl, rfl, rfl, rfl, rfl, rfl, rfl, rfl, rfl⟩
theorem hostOps0_10_spares : ((hostOps0_10 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps0_11_fresh : ((hostOps0_11 : List (HloOp τ sig (Elt F))).Forall fun op => op.fresh = ∅) := ⟨rfl, rfl⟩
theorem hostOps0_11_spares : ((hostOps0_11 : List (HloOp τ sig (Elt F))).Forall (Spares args)) := ⟨⟨_, rfl, by decide⟩, ⟨_, rfl, by decide⟩⟩
theorem hostOps0_12_fresh : ((hostOps0_12 : List (HloOp τ sig (Elt F))).Forall fun op => op.fresh = ∅) := rfl
theorem hostOps0_12_spares : ((hostOps0_12 : List (HloOp τ sig (Elt F))).Forall (Spares args)) := ⟨_, rfl, by decide⟩
theorem hostOps0_13_fresh : ((hostOps0_13 : List (HloOp τ sig (Elt F))).Forall fun op => op.fresh = ∅) := ⟨rfl, rfl⟩
theorem hostOps0_13_spares : ((hostOps0_13 : List (HloOp τ sig (Elt F))).Forall (Spares args)) := ⟨⟨_, rfl, by decide⟩, ⟨_, rfl, by decide⟩⟩
theorem hostOps0_14_fresh : ((hostOps0_14 : List (HloOp τ sig (Elt F))).Forall fun op => op.fresh = ∅) := rfl
theorem hostOps0_14_spares : ((hostOps0_14 : List (HloOp τ sig (Elt F))).Forall (Spares args)) := ⟨_, rfl, by decide⟩
theorem hostOps0_15_fresh : ((hostOps0_15 : List (HloOp τ sig (Elt F))).Forall fun op => op.fresh = ∅) := ⟨rfl, rfl⟩
theorem hostOps0_15_spares : ((hostOps0_15 : List (HloOp τ sig (Elt F))).Forall (Spares args)) := ⟨⟨_, rfl, by decide⟩, ⟨_, rfl, by decide⟩⟩
theorem hostOps0_16_fresh : ((hostOps0_16 : List (HloOp τ sig (Elt F))).Forall fun op => op.fresh = ∅) := rfl
theorem hostOps0_16_spares : ((hostOps0_16 : List (HloOp τ sig (Elt F))).Forall (Spares args)) := ⟨_, rfl, by decide⟩
theorem hostOps0_17_fresh : ((hostOps0_17 : List (HloOp τ sig (Elt F))).Forall fun op => op.fresh = ∅) := ⟨rfl, rfl⟩
theorem hostOps0_17_spares : ((hostOps0_17 : List (HloOp τ sig (Elt F))).Forall (Spares args)) := ⟨⟨_, rfl, by decide⟩, ⟨_, rfl, by decide⟩⟩
theorem hostOps0_18_fresh : ((hostOps0_18 : List (HloOp τ sig (Elt F))).Forall fun op => op.fresh = ∅) := ⟨rfl, rfl, rfl, rfl, rfl, rfl, rfl, rfl, rfl, rfl, rfl, rfl⟩
theorem hostOps0_18_spares : ((hostOps0_18 : List (HloOp τ sig (Elt F))).Forall (Spares args)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_fresh : ((hostOps1 : List (HloOp τ sig (Elt F))).Forall fun op => op.fresh = ∅) := ⟨rfl, rfl, rfl, rfl, rfl, rfl⟩
theorem hostOps1_spares : ((hostOps1 : List (HloOp τ sig (Elt F))).Forall (Spares kept)) := ⟨⟨_, rfl, by decide⟩, ⟨_, rfl, by decide⟩, ⟨_, rfl, by decide⟩, ⟨_, rfl, by decide⟩, ⟨_, rfl, by decide⟩, ⟨_, rfl, by decide⟩⟩
theorem hostOps1_1_fresh : ((hostOps1_1 : List (HloOp τ sig (Elt F))).Forall fun op => op.fresh = ∅) := ⟨rfl, rfl, rfl⟩
theorem hostOps1_1_spares : ((hostOps1_1 : List (HloOp τ sig (Elt F))).Forall (Spares kept)) := ⟨⟨_, rfl, by decide⟩, ⟨_, rfl, by decide⟩, ⟨_, rfl, by decide⟩⟩
theorem hostOps1_2_fresh : ((hostOps1_2 : List (HloOp τ sig (Elt F))).Forall fun op => op.fresh = ∅) := ⟨rfl, rfl, rfl, rfl, rfl, rfl, rfl, rfl⟩
theorem hostOps1_2_spares : ((hostOps1_2 : List (HloOp τ sig (Elt F))).Forall (Spares kept)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_3_fresh : ((hostOps1_3 : List (HloOp τ sig (Elt F))).Forall fun op => op.fresh = ∅) := ⟨rfl, rfl, rfl, rfl, rfl, rfl, rfl, rfl, rfl, rfl, rfl, rfl, rfl, rfl, rfl, rfl, rfl, rfl, rfl, rfl, rfl, rfl⟩
theorem hostOps1_3_spares : ((hostOps1_3 : List (HloOp τ sig (Elt F))).Forall (Spares kept)) := ⟨⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩, ⟨_, rfl, by decide⟩⟩
theorem hostOps1_4_fresh : ((hostOps1_4 : List (HloOp τ sig (Elt F))).Forall fun op => op.fresh = ∅) := ⟨rfl, rfl⟩
theorem hostOps1_4_spares : ((hostOps1_4 : List (HloOp τ sig (Elt F))).Forall (Spares kept)) := ⟨⟨_, rfl, by decide⟩, ⟨_, rfl, by decide⟩⟩

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩
theorem pre_fresh : (pre (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩
theorem pre_spares : (pre (F := F)).Forall fun ops => ops.Forall (Spares args) :=
  ⟨hostOps0_spares, hostOps0_1_spares, hostOps0_2_spares, hostOps0_3_spares, hostOps0_4_spares, hostOps0_5_spares, hostOps0_6_spares, hostOps0_7_spares, hostOps0_8_spares, hostOps0_9_spares, hostOps0_10_spares, hostOps0_11_spares, hostOps0_12_spares, hostOps0_13_spares, hostOps0_14_spares, hostOps0_15_spares, hostOps0_16_spares, hostOps0_17_spares, hostOps0_18_spares⟩
theorem post_tc : (post (F := F)).Forall fun ops => ops.Forall fun op => op.bufs ⊆ StableHlo.tcRefs τ sig :=
  ⟨hostOps1_sub, hostOps1_1_sub, hostOps1_2_sub, hostOps1_3_sub, hostOps1_4_sub⟩
theorem post_all_fresh : (post (F := F)).Forall fun ops => ops.Forall fun op => op.fresh = ∅ :=
  ⟨hostOps1_fresh, hostOps1_1_fresh, hostOps1_2_fresh, hostOps1_3_fresh, hostOps1_4_fresh⟩
theorem post_spares : (post (F := F)).Forall fun ops => ops.Forall (Spares kept) :=
  ⟨hostOps1_spares, hostOps1_1_spares, hostOps1_2_spares, hostOps1_3_spares, hostOps1_4_spares⟩

/-- What holds of every line of every group holds of a line of a group. -/
theorem of_groups {P : HloOp τ sig (Elt F) → Prop} {opss : List (List (HloOp τ sig (Elt F)))} (h : opss.Forall fun ops => ops.Forall P) :
    ∀ ops ∈ opss, ∀ op ∈ ops, P op :=
  fun ops hops op hop => List.forall_iff_forall_mem.mp (List.forall_iff_forall_mem.mp h ops hops) op hop

theorem post_sub : ∀ ops ∈ (post (F := F)), ∀ op ∈ ops, op.bufs ⊆ Pipeline.tailRefs sig Pipeline.Prefetch.none spec0 := by
  rw [Pipeline.tailRefs_none spec0 winFacts0.arr_unscoped]
  exact fun ops hops op hop => Pipeline.sub_ucRefs op (of_groups post_tc ops hops op hop)

theorem post_keeps : ∀ ops ∈ (post (F := F)), ∀ op ∈ ops, ∀ w, Proc.devRef .tc (Pipeline.arrRef spec0 w) ∉ op.writes :=
  fun ops hops op hop w => (of_groups post_spares ops hops op hop).not_mem
    (List.mem_cons_of_mem _ (List.mem_cons_of_mem _ (List.mem_map_of_mem (List.mem_finRange w))))

/-- Lines that spare a buffer leave it as it was. -/
theorem after_spared {bad : List (Ref sig .tc)} {opss : List (List (HloOp τ sig (Elt F)))} (h : opss.Forall fun ops => ops.Forall (Spares bad))
    (V : Valuation τ sig (Elt F)) {b : Ref sig .tc} (hb : b ∈ bad) :
    StableHlo.after opss.flatten V (Proc.devRef .tc b) = V (Proc.devRef .tc b) :=
  StableHlo.after_of_forall_not_mem _ _ fun op hop => by
    obtain ⟨ops, hops, hop⟩ := List.mem_flatten.mp hop
    exact (of_groups h ops hops op hop).not_mem hb

variable (m : (ℓ : Loc nD τ sig) → Buf (Elt F) ℓ)

theorem hin (c : Dev nD) : Pipeline.ΦA spec0 c ⊢ (dats m 0 c).Φ 0 := by
  rw [show (dats m 0 c).Φ 0 = iprop(scrHeld m c 0 ∗ ∃ r, prngReg c r) from rfl]
  unfold Pipeline.ΦA scrHeld
  rw [scopedRest0_eq]
  iintro ⟨⟨%f, Hs⟩, Hp⟩
  isplitl [Hs]
  · iexists f; isplitr; swap; · iexact Hs
    ipureintro; exact fun h => absurd rfl h
  iexact Hp

theorem hout (c : Dev nD) : (dats m 0 c).Φ (Fin.last (cfg0 (F := F)).N) ⊢ Pipeline.ΦA spec0 c := by
  rw [show (dats m 0 c).Φ (Fin.last (cfg0 (F := F)).N) = iprop(scrHeld m c (cfg0 (F := F)).N ∗ ∃ r, prngReg c r) from rfl]
  unfold Pipeline.ΦA scrHeld
  rw [scopedRest0_eq]
  iintro ⟨⟨%f, %hf, Hs⟩, Hp⟩
  isplitl [Hs]
  · iexists f; iexact Hs
  iexact Hp

set_option backward.isDefEq.respectTransparency.types false in
/-- The run: every window's array at what the write-backs leave, every other buffer at what the later lines leave of it, all counters at zero. -/
theorem run_main (g : Dev nD → PrngReg) :
    θ_run (defs (F := F)) (onTc (τ := τ) (main (F := F))) ⟨m, fun _ => 0, g⟩
      (fun r => Pipeline.FramePost (cfgs (F := F)) (dats m) 0 (Pipeline.afterTail₀ (cfgs (F := F)) (dats m) 0 (V₀ m) (post (F := F))) r ∧ r.2.sem = (fun _ => 0)) :=
  Pipeline.θ_run_frame_around_track (cfgs (F := F)) (dats m) 0 launch0 defs₀ 𝒱₀ m g main
    (hbody := fun c => (body_obligation m c).loose) (hshare := fun c => (dats m 0 c).share_full fun _ => rfl)
    (howed := fun _ _ => rfl) (V₀ := V₀ m) (opss := post) (hsub := post_sub) (hfresh := of_groups post_all_fresh) (hkeep := post_keeps)
    (hmain := Pipeline.hmain_around (cfgs (F := F)) 0 defs₀ 𝒱₀ m main pre post pre_sub pre_fresh main_chain)
    (hA := fun _ _ => rfl) (hin := hin m) (hout := hout m) (Q' := _) (hQ' := fun _ h => h)

/-- The arguments are never written. -/
theorem arg_kept (c : Dev nD) {b : Ref sig .tc} (hb : b ∈ args) :
    Pipeline.afterTail₀ (cfgs (F := F)) (dats m) 0 (V₀ m) (post (F := F)) c b = m ((c : Thread nD τ).loc b) := by
  have hk : b ∈ kept := by
    rcases List.mem_cons.mp hb with rfl | hb
    · decide
    · rcases List.mem_singleton.mp hb with rfl; decide
  have hne : ∀ w, Pipeline.arrRef spec0 w ≠ b := by
    rcases List.mem_cons.mp hb with rfl | hb
    · decide
    · rcases List.mem_singleton.mp hb with rfl; decide
  unfold Pipeline.afterTail₀
  rw [after_spared post_spares _ hk, Pipeline.withArrays_of_ne]
  · exact after_spared pre_spares _ hb
  · exact hne

/-- The kernel's program runs, leaves its arguments alone and ends with every counter at zero. -/
theorem frame (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) := by
  refine (θ_run (defs (F := F)) (onTc (τ := τ) (main (F := F))) ⟨m, fun _ => 0, g⟩).mono ?_ (run_main m g)
  rintro r ⟨h, hs⟩
  refine ⟨fun c => ⟨?_, ?_⟩, hs⟩
  · exact ((h c).2 main_arg0 (Pipeline.mem_restRefs_of (win := spec0) main_arg0 (by decide) (by decide))).trans (arg_kept m c (by decide))
  · exact ((h c).2 main_arg1 (Pipeline.mem_restRefs_of (win := spec0) main_arg1 (by decide) (by decide))).trans (arg_kept m c (by decide))

end Cert.Proof.KI

end
-- ==== Proof.MainRef.lean ====
/-
  The reference's run: no line of it writes an argument, the loop writes none of the values the later lines read
  besides the ones it carries, and it has no semaphore.
-/
module

public import proofs.«01_k».proof.Proof.Gen.ReferenceIdeal
public import proofs.«01_k».proof.Proof.Gen.ReferenceIdeal.Run
public import Idealize.ShloMosaic.Lib.Quiescent

@[expose] public section

set_option synthInstance.maxSize 4096
set_option synthInstance.maxHeartbeats 400000

noncomputable section

namespace Cert.Proof.RI

open Cert.ReferenceIdeal Cert.ReferenceIdeal.Gen Cert.ReferenceIdeal.Value
open Idealize.ShloMosaic Idealize.ShloMosaic.StableHlo Idealize.ShloMosaic.TcCoe Idealize.SL.Sem

variable {F : FTy → Type} [FloatOps F]

/-- The lines before the loop leave a buffer they do not write. -/
theorem keep_pre (V : Valuation τ sig (Elt F)) (b : Ref sig .tc)
    (hb : b ∉ hostOps0_W ∧ b ∉ hostOps0_1_W ∧ b ∉ hostOps0_2_W ∧ b ∉ hostOps0_3_W ∧ b ∉ hostOps0_4_W ∧ b ∉ hostOps0_5_W ∧ b ∉ hostOps0_6_W ∧ b ∉ hostOps0_7_W ∧ b ∉ hostOps0_8_W ∧ b ∉ hostOps0_9_W ∧ b ∉ hostOps0_10_W ∧ b ∉ hostOps0_11_W ∧ b ∉ hostOps0_12_W ∧ b ∉ hostOps0_13_W ∧ b ∉ hostOps0_14_W ∧ b ∉ hostOps0_15_W ∧ b ∉ hostOps0_16_W ∧ b ∉ hostOps0_17_W ∧ b ∉ hostOps0_18_W ∧ b ∉ hostOps0_19_W ∧ b ∉ hostOps0_20_W ∧ b ∉ hostOps0_21_W ∧ b ∉ hostOps0_22_W ∧ b ∉ hostOps0_23_W ∧ b ∉ hostOps0_24_W) :
    afterL preI V (Proc.devRef .tc b) = V (Proc.devRef .tc b) := by
  obtain ⟨h0, h1, h2, h3, h4, h5, h6, h7, h8, h9, h10, h11, h12, h13, h14, h15, h16, h17, h18, h19, h20, h21, h22, h23, h24⟩ := hb
  simp only [afterL_cons, afterL_nil]
  rw [after_of_writes_sub (W := hostOps0_24_W) hostOps0_24 _ hostOps0_24_writes h24,
    after_of_writes_sub (W := hostOps0_23_W) hostOps0_23 _ hostOps0_23_writes h23,
    after_of_writes_sub (W := hostOps0_22_W) hostOps0_22 _ hostOps0_22_writes h22,
    after_of_writes_sub (W := hostOps0_21_W) hostOps0_21 _ hostOps0_21_writes h21,
    after_of_writes_sub (W := hostOps0_20_W) hostOps0_20 _ hostOps0_20_writes h20,
    after_of_writes_sub (W := hostOps0_19_W) hostOps0_19 _ hostOps0_19_writes h19,
    after_of_writes_sub (W := hostOps0_18_W) hostOps0_18 _ hostOps0_18_writes h18,
    after_of_writes_sub (W := hostOps0_17_W) hostOps0_17 _ hostOps0_17_writes h17,
    after_of_writes_sub (W := hostOps0_16_W) hostOps0_16 _ hostOps0_16_writes h16,
    after_of_writes_sub (W := hostOps0_15_W) hostOps0_15 _ hostOps0_15_writes h15,
    after_of_writes_sub (W := hostOps0_14_W) hostOps0_14 _ hostOps0_14_writes h14,
    after_of_writes_sub (W := hostOps0_13_W) hostOps0_13 _ hostOps0_13_writes h13,
    after_of_writes_sub (W := hostOps0_12_W) hostOps0_12 _ hostOps0_12_writes h12,
    after_of_writes_sub (W := hostOps0_11_W) hostOps0_11 _ hostOps0_11_writes h11,
    after_of_writes_sub (W := hostOps0_10_W) hostOps0_10 _ hostOps0_10_writes h10,
    after_of_writes_sub (W := hostOps0_9_W) hostOps0_9 _ hostOps0_9_writes h9,
    after_of_writes_sub (W := hostOps0_8_W) hostOps0_8 _ hostOps0_8_writes h8,
    after_of_writes_sub (W := hostOps0_7_W) hostOps0_7 _ hostOps0_7_writes h7,
    after_of_writes_sub (W := hostOps0_6_W) hostOps0_6 _ hostOps0_6_writes h6,
    after_of_writes_sub (W := hostOps0_5_W) hostOps0_5 _ hostOps0_5_writes h5,
    after_of_writes_sub (W := hostOps0_4_W) hostOps0_4 _ hostOps0_4_writes h4,
    after_of_writes_sub (W := hostOps0_3_W) hostOps0_3 _ hostOps0_3_writes h3,
    after_of_writes_sub (W := hostOps0_2_W) hostOps0_2 _ hostOps0_2_writes h2,
    after_of_writes_sub (W := hostOps0_1_W) hostOps0_1 _ hostOps0_1_writes h1,
    after_of_writes_sub (W := hostOps0_W) hostOps0 _ hostOps0_writes h0]

/-- The buffers `hostOps0_25` writes, in order. -/
abbrev hostOps0_25_W : List (Ref sig .tc) := [main_cst_17]
theorem hostOps0_25_writes : (hostOps0_25 : List (HloOp τ sig (Elt F))).Forall fun op => op.writes ⊆ (hostOps0_25_W.map (Proc.devRef (τ := τ) .tc)).toFinset :=
  StableHlo.forall_writes_sub_of_map rfl

/-- The buffers `hostOps0_26` writes, in order. -/
abbrev hostOps0_26_W : List (Ref sig .tc) := [main_call15_v0, main_call15_v1, main_v78]
theorem hostOps0_26_writes : (hostOps0_26 : List (HloOp τ sig (Elt F))).Forall fun op => op.writes ⊆ (hostOps0_26_W.map (Proc.devRef (τ := τ) .tc)).toFinset :=
  StableHlo.forall_writes_sub_of_map rfl

/-- The buffers `hostOps0_27` writes, in order. -/
abbrev hostOps0_27_W : List (Ref sig .tc) := [main_values_18, main_indices_19, main_v79, main_v80, main_v81, main_v82, main_v83, main_v84]
theorem hostOps0_27_writes : (hostOps0_27 : List (HloOp τ sig (Elt F))).Forall fun op => op.writes ⊆ (hostOps0_27_W.map (Proc.devRef (τ := τ) .tc)).toFinset :=
  StableHlo.forall_writes_sub_of_map rfl

/-- The buffers `hostOps0_28` writes, in order. -/
abbrev hostOps0_28_W : List (Ref sig .tc) := [main_call16_c, main_call16_v0, main_call16_v1, main_call16_c_0, main_call16_v2, main_call16_v3, main_call16_v4, main_call16_c_1, main_call16_c_2, main_call16_v5, main_call16_v6, main_call16_v7, main_call16_v8, main_call16_v9, main_call16_v10, main_call16_c_3, main_call16_v11, main_call16_v12, main_call16_v13, main_call16_cst, main_call16_v14, main_v85]
theorem hostOps0_28_writes : (hostOps0_28 : List (HloOp τ sig (Elt F))).Forall fun op => op.writes ⊆ (hostOps0_28_W.map (Proc.devRef (τ := τ) .tc)).toFinset :=
  StableHlo.forall_writes_sub_of_map rfl

/-- The buffers `hostOps0_29` writes, in order. -/
abbrev hostOps0_29_W : List (Ref sig .tc) := [main_v86, main_v87]
theorem hostOps0_29_writes : (hostOps0_29 : List (HloOp τ sig (Elt F))).Forall fun op => op.writes ⊆ (hostOps0_29_W.map (Proc.devRef (τ := τ) .tc)).toFinset :=
  StableHlo.forall_writes_sub_of_map rfl

/-- The lines after the loop leave a buffer they do not write. -/
theorem keep_post (V : Valuation τ sig (Elt F)) (b : Ref sig .tc)
    (hb : b ∉ hostOps0_25_W ∧ b ∉ hostOps0_26_W ∧ b ∉ hostOps0_27_W ∧ b ∉ hostOps0_28_W ∧ b ∉ hostOps0_29_W) :
    afterL postI V (Proc.devRef .tc b) = V (Proc.devRef .tc b) := by
  obtain ⟨h0, h1, h2, h3, h4⟩ := hb
  simp only [afterL_cons, afterL_nil]
  rw [after_of_writes_sub (W := hostOps0_29_W) hostOps0_29 _ hostOps0_29_writes h4,
    after_of_writes_sub (W := hostOps0_28_W) hostOps0_28 _ hostOps0_28_writes h3,
    after_of_writes_sub (W := hostOps0_27_W) hostOps0_27 _ hostOps0_27_writes h2,
    after_of_writes_sub (W := hostOps0_26_W) hostOps0_26 _ hostOps0_26_writes h1,
    after_of_writes_sub (W := hostOps0_25_W) hostOps0_25 _ hostOps0_25_writes h0]

/-- A trip of the loop leaves a buffer neither its condition nor its body writes. -/
theorem keep_trip (V : Dev nD → Valuation τ sig (Elt F)) (c : Dev nD) (b : Ref sig .tc) (hc : b ∉ condOps_W) (hb : b ∉ while0Ops0_W) :
    ∀ k, atTrip condOps bodyI V k c (Proc.devRef .tc b) = V c (Proc.devRef .tc b)
  | 0 => rfl
  | k + 1 => by
    rw [atTrip_succ]
    simp only [afterL_cons, afterL_nil]
    rw [after_of_writes_sub (W := while0Ops0_W) while0Ops0 _ while0Ops0_writes hb,
      after_of_writes_sub (W := condOps_W) condOps _ condOps_writes hc, keep_trip V c b hc hb k]

variable (m : (ℓ : Loc nD τ sig) → Buf (Elt F) ℓ)

theorem arg0_kept (c : Dev nD) :
    finalContents condOps preI bodyI postI 2000 m c (Proc.devRef .tc main_arg0) = m ((c.tc : Thread nD τ).loc main_arg0) := by
  rw [finalContents, keep_post _ _ (by decide +kernel), after_of_writes_sub (W := condOps_W) condOps _ condOps_writes (by decide +kernel),
    keep_trip _ _ _ (by decide +kernel) (by decide +kernel), entryContents, keep_pre _ _ (by decide +kernel)]

theorem arg1_kept (c : Dev nD) :
    finalContents condOps preI bodyI postI 2000 m c (Proc.devRef .tc main_arg1) = m ((c.tc : Thread nD τ).loc main_arg1) := by
  rw [finalContents, keep_post _ _ (by decide +kernel), after_of_writes_sub (W := condOps_W) condOps _ condOps_writes (by decide +kernel),
    keep_trip _ _ _ (by decide +kernel) (by decide +kernel), entryContents, keep_pre _ _ (by decide +kernel)]

/-- The reference runs and leaves its arguments; what its result holds is what the lines in order leave there. -/
theorem run_value (g : Dev nD → PrngReg) :
    θ_run (defs (F := F)) (onTc (τ := τ) (main (F := F))) ⟨m, fun _ => 0, g⟩ (fun r => ∀ c : Dev nD,
      r.2.mem ((c.tc : Thread nD τ).loc main_v87) = finalContents condOps preI bodyI postI 2000 m c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨h c main_v87 rfl, (h c main_arg0 rfl).trans (arg0_kept m c),
    (h c main_arg1 rfl).trans (arg1_kept m c)⟩) (run_fold m g)

theorem frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => (h c).2, sem_eq_zero_of_no_sems (by decide) r.2⟩) (run_value m g)

end Cert.Proof.RI

end
-- ==== Proof.Lines.lean ====
/-
  Reading a program's lines by groups: when no later group writes a buffer, what the whole program leaves there is what
  the group that writes it left.
-/
module

public import Idealize.ShloMosaic.Lib.StableHlo.RunRead
public import Idealize.ShloMosaic.Lib.Pipeline.Frame

@[expose] public section

namespace Cert.Proof

open Idealize.ShloMosaic

variable {τ : Topo} {sig : RefSig} {Val : EltTy → Type}

/-- The groups `opss` write the buffers `Ws`, line by line. -/
def LinesWrite (opss : List (List (HloOp τ sig Val))) (Ws : List (List (Ref sig .tc))) : Prop :=
  opss.map (fun ops => ops.map HloOp.writes) = Ws.map (fun W => W.map fun r => {Proc.devRef .tc r})

/-- The contents before group `n`. -/
def beforeGroup (opss : List (List (HloOp τ sig Val))) (n : ℕ) (V : Valuation τ sig Val) : Valuation τ sig Val :=
  StableHlo.after (opss.take n).flatten V

variable {opss : List (List (HloOp τ sig Val))} {Ws : List (List (Ref sig .tc))}

theorem LinesWrite.kept (h : LinesWrite opss Ws) (n : ℕ) (V : Valuation τ sig Val) (b : Ref sig .tc) (hb : b ∉ (Ws.drop n).flatten) :
    StableHlo.after (opss.drop n).flatten V (Proc.devRef .tc b) = V (Proc.devRef .tc b) := by
  refine StableHlo.after_of_forall_not_mem _ _ fun op hop hmem => hb ?_
  have h' : (opss.drop n).map (fun ops => ops.map HloOp.writes) = (Ws.drop n).map (fun W => W.map fun r => {Proc.devRef .tc r}) := by
    rw [List.map_drop, List.map_drop, h]
  obtain ⟨ops, hops, hop⟩ := List.mem_flatten.mp hop
  have h1 : ops.map HloOp.writes ∈ (Ws.drop n).map (fun W => W.map fun r => ({Proc.devRef .tc r} : Finset _)) := by
    rw [← h']; exact List.mem_map_of_mem hops
  obtain ⟨W, hW, e⟩ := List.mem_map.mp h1
  have h2 : op.writes ∈ W.map fun r => ({Proc.devRef .tc r} : Finset _) := by rw [e]; exact List.mem_map_of_mem hop
  obtain ⟨r, hr, e⟩ := List.mem_map.mp h2
  rw [← e, Finset.mem_singleton] at hmem
  obtain rfl := Proc.devRef_injective _ hmem
  exact List.mem_flatten.mpr ⟨W, hW, hr⟩

/-- A buffer no group from `n` on writes holds at the end what it held before group `n`. -/
theorem LinesWrite.in_eq (h : LinesWrite opss Ws) (n : ℕ) (V : Valuation τ sig Val) (b : Ref sig .tc) (hb : b ∉ (Ws.drop n).flatten) :
    StableHlo.after opss.flatten V (Proc.devRef .tc b) = beforeGroup opss n V (Proc.devRef .tc b) := by
  rw [← h.kept n (beforeGroup opss n V) b hb, beforeGroup, ← StableHlo.after_append, ← List.flatten_append, List.take_append_drop]

/-- A buffer no group after the groups `gs`, which start at `n`, writes holds at the end what those groups left. -/
theorem LinesWrite.out_eq (h : LinesWrite opss Ws) (n k : ℕ) {gs : List (List (HloOp τ sig Val))} (hgs : (opss.drop n).take k = gs)
    (V : Valuation τ sig Val) (b : Ref sig .tc) (hb : b ∉ (Ws.drop (n + k)).flatten) :
    StableHlo.after opss.flatten V (Proc.devRef .tc b) = StableHlo.after gs.flatten (beforeGroup opss n V) (Proc.devRef .tc b) := by
  rw [h.in_eq (n + k) V b hb, beforeGroup, List.take_add, List.flatten_append, StableHlo.after_append, hgs]
  rfl

end Cert.Proof
-- ==== Proof.HostWords.lean ====
/-
  The pieces the lines around the kernel are made of, at the extended reals.
-/
module

public import proofs.«01_k».proof.Proof.Gen.KernelIdeal.Launch
public import Idealize.ShloMosaic.PureOps.Ideal

@[expose] public section

noncomputable section

namespace Cert.Proof

open Cert.KernelIdeal Cert.KernelIdeal.Gen
open Idealize.ShloMosaic
open Idealize.ShloMosaic.TcCoe

/-- An index counted from the end when negative. -/
def wrapIdx (i : IVec S4x2000x1 32) : IVec S4x2000x1 32 :=
  select (cmpi .slt i (broadcastInDim S4x2000x1 ![] bcast_S_S4x2000x1 (constantI S_ 32 0#32)))
    (addi i (broadcastInDim S4x2000x1 ![] bcast_S_S4x2000x1 (constantI S_ 32 20000#32))) i

/-- The rows of `x` at the indices `i`. -/
def takeRows (x : FVec Ideal S4x20000x4 .f32) (i : IVec S4x2000x1 32) : FVec Ideal S4x2000x4 .f32 :=
  select (broadcastInDim S4x2000x4 ![0, 1] bcast_S4x2000_S4x2000x4_0_1
      (Host.reduce IntOp.andi
        (andi (cmpi .sge (wrapIdx i) (broadcastInDim S4x2000x1 ![] bcast_S_S4x2000x1 (constantI S_ 32 0#32)))
          (cmpi .sle (wrapIdx i) (broadcastInDim S4x2000x1 ![0, 1, 2] bcast_S1x1x1_S4x2000x1_0_1_2
            (broadcastInDim S1x1x1 ![2] bcast_S1_S1x1x1_2 (constantI S1 32 19999#32)))))
        (constantI S_ 1 1#1) reducesTo_S4x2000x1_S4x2000_d2 h_S_))
    (Host.gather gather_S4x20000x4_S4x2000x1_S4x2000x4_2_1_0_0_1_2_114 x (wrapIdx i))
    (broadcastInDim S4x2000x4 ![] bcast_S_S4x2000x4 (constant S_ .f32 0x7FC00000#32))

/-- A column of coordinates cut to the picture. -/
def clip (x : FVec Ideal S4x2000x1 .f32) : FVec Ideal S4x2000 .f32 :=
  minimumf (broadcastInDim S4x2000 ![] bcast_S_S4x2000 (constant S_ .f32 0x44480000#32))
    (maximumf (broadcastInDim S4x2000 ![] bcast_S_S4x2000 (constant S_ .f32 0x00000000#32)) (shapeCast S4x2000 x shapeCasts_S4x2000x1_S4x2000))

/-- The left edges. -/
def col1 (x : FVec Ideal S4x2000x4 .f32) : FVec Ideal S4x2000 .f32 := clip (extractStridedSlice S4x2000x1 ![0, 0, 0] x slices_S4x2000x4_S4x2000x1_0_0_0)
/-- The upper edges. -/
def col2 (x : FVec Ideal S4x2000x4 .f32) : FVec Ideal S4x2000 .f32 := clip (extractStridedSlice S4x2000x1 ![0, 0, 1] x slices_S4x2000x4_S4x2000x1_0_0_1)
/-- The right edges. -/
def col3 (x : FVec Ideal S4x2000x4 .f32) : FVec Ideal S4x2000 .f32 := clip (extractStridedSlice S4x2000x1 ![0, 0, 2] x slices_S4x2000x4_S4x2000x1_0_0_2)
/-- The lower edges. -/
def col4 (x : FVec Ideal S4x2000x4 .f32) : FVec Ideal S4x2000 .f32 := clip (extractStridedSlice S4x2000x1 ![0, 0, 3] x slices_S4x2000x4_S4x2000x1_0_0_3)

/-- The sigmoid of the scores. -/
def sigmoid (x : FVec Ideal S4x2000 .f32) : FVec Ideal S4x2000 .f32 :=
  Host.divf (broadcastInDim S4x2000 ![] bcast_S_S4x2000 (constant S_ .f32 0x3F800000#32))
    (addf (broadcastInDim S4x2000 ![] bcast_S_S4x2000 (constant S_ .f32 0x3F800000#32)) (Host.exp (Host.negf x)))

/-- The top scores, their indices, sorted. -/
def sorted (x : FVec Ideal S4x20000 .f32) : FVec Ideal S4x2048 .f32 × IVec S4x2048 32 :=
  Host.sort2 S4x2048 1 comparator_f32_i32_d1 (Host.negf (Host.topK S4x2048 1 (FloatOps.cmpfTotal .gt) x sliceFits_S4x20000_S4x2048).1)
    (Host.topK S4x2048 1 (FloatOps.cmpfTotal .gt) x sliceFits_S4x20000_S4x2048).2

/-- Zeros after the last box. -/
def padded (x : FVec Ideal S4x2000 .f32) : FVec Ideal S4x2048 .f32 :=
  pad S4x2048 ![0, 0] ![0, 48] ![0, 0] x (sitofp .f32 (constantI S_ 32 0#32)) pads_S4x2000_S4x2048_000_0480 h_S_

/-- Which boxes the kernel keeps. -/
def keptBits (x : FVec Ideal S4x2048x1 .f32) : IVec S4x2000 1 :=
  cmpf .ogt (extractStridedSlice S4x2000 ![0, 0] (shapeCast S4x2048 x shapeCasts_S4x2048x1_S4x2048) slices_S4x2048_S4x2000_0_0)
    (broadcastInDim S4x2000 ![] bcast_S_S4x2000 (constant S_ .f32 0x3F000000#32))

/-- A position counted from the end when negative. -/
def wrapTop (i : IVec S4x1000x1 32) : IVec S4x1000x1 32 :=
  select (cmpi .slt i (broadcastInDim S4x1000x1 ![] bcast_S_S4x1000x1 (constantI S_ 32 0#32)))
    (addi i (broadcastInDim S4x1000x1 ![] bcast_S_S4x1000x1 (constantI S_ 32 2000#32))) i

/-- The boxes of `x` at the positions `i`. -/
def takeTop (x : FVec Ideal S4x2000x4 .f32) (i : IVec S4x1000x1 32) : FVec Ideal S4x1000x4 .f32 :=
  select (broadcastInDim S4x1000x4 ![0, 1] bcast_S4x1000_S4x1000x4_0_1
      (Host.reduce IntOp.andi
        (andi (cmpi .sge (wrapTop i) (broadcastInDim S4x1000x1 ![] bcast_S_S4x1000x1 (constantI S_ 32 0#32)))
          (cmpi .sle (wrapTop i) (broadcastInDim S4x1000x1 ![0, 1, 2] bcast_S1x1x1_S4x1000x1_0_1_2
            (broadcastInDim S1x1x1 ![2] bcast_S1_S1x1x1_2 (constantI S1 32 1999#32)))))
        (constantI S_ 1 1#1) reducesTo_S4x1000x1_S4x1000_d2 h_S_))
    (Host.gather gather_S4x2000x4_S4x1000x1_S4x1000x4_2_1_0_0_1_2_114 x (wrapTop i))
    (broadcastInDim S4x1000x4 ![] bcast_S_S4x1000x4 (constant S_ .f32 0x7FC00000#32))

/-- A row of numbers as a column of boxes. -/
abbrev upright (x : FVec Ideal S4x2000 .f32) : FVec Ideal S4x2000x1 .f32 :=
  broadcastInDim S4x2000x1 ![0, 1] bcast_S4x2000_S4x2000x1_0_1 x

/-- Four columns side by side. -/
def boxes (a b c d : FVec Ideal S4x2000 .f32) : FVec Ideal S4x2000x4 .f32 :=
  concatenate S4x2000x4 2 [⟨S4x2000x1, upright a⟩, ⟨S4x2000x1, upright b⟩, ⟨S4x2000x1, upright c⟩, ⟨S4x2000x1, upright d⟩]
    concatenates_S4x2000x1_S4x2000x1_S4x2000x1_S4x2000x1_S4x2000x4_d2

/-- The scores that count: those of the boxes kept. -/
def marked (k : IVec S4x2000 1) (s : FVec Ideal S4x2000 .f32) : FVec Ideal S4x2000 .f32 :=
  select k s (broadcastInDim S4x2000 ![] bcast_S_S4x2000 (constant S_ .f32 0xCE6E6B28#32))

/-- The best thousand scores and where they stand. -/
def best (s : FVec Ideal S4x2000 .f32) : FVec Ideal S4x1000 .f32 × IVec S4x1000 32 :=
  Host.topK S4x1000 1 (FloatOps.cmpfTotal .gt) s sliceFits_S4x2000_S4x1000

/-- The result: the best thousand boxes with their scores. -/
def answer (s : FVec Ideal S4x2000 .f32) (x : FVec Ideal S4x2000x4 .f32) : FVec Ideal S4x1000x5 .f32 :=
  concatenate S4x1000x5 2
    [⟨S4x1000x4, takeTop x (broadcastInDim S4x1000x1 ![0, 1] bcast_S4x1000_S4x1000x1_0_1 (best s).2)⟩,
      ⟨S4x1000x1, broadcastInDim S4x1000x1 ![0, 1] bcast_S4x1000_S4x1000x1_0_1 (best s).1⟩]
    concatenates_S4x1000x4_S4x1000x1_S4x1000x5_d2

end Cert.Proof

end
-- ==== Proof.HostRef.lean ====
/-
  What the lines around the reference's loop compute, at the extended reals.
-/
module

public import proofs.«01_k».proof.Proof.MainRef
public import proofs.«01_k».proof.Proof.Lines
public import proofs.«01_k».proof.Proof.HostWords

@[expose] public section

noncomputable section

namespace Cert.Proof.RI

open Cert.ReferenceIdeal Cert.ReferenceIdeal.Gen Cert.ReferenceIdeal.Value
open Idealize.ShloMosaic
open Idealize.ShloMosaic.TcCoe

/-- The buffers the lines before the loop write, by groups. -/
abbrev preW : List (List (Ref sig .tc)) :=
  [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W, hostOps0_19_W, hostOps0_20_W, hostOps0_21_W, hostOps0_22_W, hostOps0_23_W, hostOps0_24_W]

theorem pre_writes : LinesWrite (preI (F := Ideal)) preW := rfl

/-- The buffers the lines after it write. -/
abbrev postW : List (List (Ref sig .tc)) :=
  [hostOps0_25_W, hostOps0_26_W, hostOps0_27_W, hostOps0_28_W, hostOps0_29_W]

theorem post_writes : LinesWrite (postI (F := Ideal)) postW := rfl

/-- The top scores and their indices. -/
def top (x : FVec Ideal S4x20000 .f32) : FVec Ideal S4x2000 .f32 × IVec S4x2000 32 :=
  Host.topK S4x2000 1 (FloatOps.cmpfTotal .gt) x sliceFits_S4x20000_S4x2000

/-- Which boxes are wide and high enough and score at least zero. -/
def sound (a b c d s : FVec Ideal S4x2000 .f32) : IVec S4x2000 1 :=
  andi (andi (cmpf .oge (subf c a) (broadcastInDim S4x2000 ![] bcast_S_S4x2000 (constant S_ .f32 0x3A83126F#32)))
      (cmpf .oge (subf d b) (broadcastInDim S4x2000 ![] bcast_S_S4x2000 (constant S_ .f32 0x3A83126F#32))))
    (cmpf .oge s (broadcastInDim S4x2000 ![] bcast_S_S4x2000 (constant S_ .f32 0x00000000#32)))

/-- The positions in order of score, best first. -/
def order (s : FVec Ideal S4x2000 .f32) : IVec S4x2000 32 :=
  (Host.sort2 S4x2000 1 comparator_f32_i32_d1 (Host.negf s) (iotaInDim S4x2000 32 1)).2

/-- A position counted from the end when negative. -/
def wrapAt (i : IVec S4x2000 32) : IVec S4x2000x1 32 :=
  shapeCast S4x2000x1 (select (cmpi .slt i (broadcastInDim S4x2000 ![] bcast_S_S4x2000 (constantI S_ 32 0#32)))
    (addi i (broadcastInDim S4x2000 ![] bcast_S_S4x2000 (constantI S_ 32 2000#32))) i) shapeCasts_S4x2000_S4x2000x1

/-- Which positions are in range. -/
def inRange (i : IVec S4x2000 32) : IVec S4x2000 1 :=
  Host.reduce IntOp.andi
    (andi (cmpi .sge (wrapAt i) (broadcastInDim S4x2000x1 ![] bcast_S_S4x2000x1 (constantI S_ 32 0#32)))
      (cmpi .sle (wrapAt i) (broadcastInDim S4x2000x1 ![0, 1, 2] bcast_S1x1x1_S4x2000x1_0_1_2
        (broadcastInDim S1x1x1 ![2] bcast_S1_S1x1x1_2 (constantI S1 32 1999#32)))))
    (constantI S_ 1 1#1) reducesTo_S4x2000x1_S4x2000_d2 h_S_

/-- The numbers of `x` at the positions `i`. -/
def takeAt (x : FVec Ideal S4x2000 .f32) (i : IVec S4x2000 32) : FVec Ideal S4x2000 .f32 :=
  select (inRange i) (Host.gather gather_S4x2000_S4x2000x1_S4x2000_n_1_0_0_1_2_11 x (wrapAt i))
    (broadcastInDim S4x2000 ![] bcast_S_S4x2000 (constant S_ .f32 0x7FC00000#32))

/-- The marks of `x` at the positions `i`. -/
def takeBit (x : IVec S4x2000 1) (i : IVec S4x2000 32) : IVec S4x2000 1 :=
  select (inRange i) (Host.gather gather_S4x2000_S4x2000x1_S4x2000_n_1_0_0_1_2_11 x (wrapAt i))
    (broadcastInDim S4x2000 ![] bcast_S_S4x2000 (constantI S_ 1 1#1))

/-- A row of numbers down the first of two axes. -/
abbrev down (x : FVec Ideal S4x2000 .f32) : FVec Ideal S4x2000x2000 .f32 :=
  broadcastInDim S4x2000x2000 ![0, 1, 2] bcast_S4x2000x1_S4x2000x2000_0_1_2 (broadcastInDim S4x2000x1 ![0, 1] bcast_S4x2000_S4x2000x1_0_1 x)

/-- A row of numbers along the second of two axes. -/
abbrev along (x : FVec Ideal S4x2000 .f32) : FVec Ideal S4x2000x2000 .f32 :=
  broadcastInDim S4x2000x2000 ![0, 1, 2] bcast_S4x1x2000_S4x2000x2000_0_1_2 (broadcastInDim S4x1x2000 ![0, 2] bcast_S4x2000_S4x1x2000_0_2 x)

/-- A length, no less than zero. -/
abbrev floored (x : FVec Ideal S4x2000x2000 .f32) : FVec Ideal S4x2000x2000 .f32 :=
  maximumf (broadcastInDim S4x2000x2000 ![] bcast_S_S4x2000x2000 (constant S_ .f32 0x00000000#32)) x

/-- What two boxes share. -/
abbrev shared (a b c d : FVec Ideal S4x2000 .f32) : FVec Ideal S4x2000x2000 .f32 :=
  mulf (floored (subf (minimumf (down c) (along c)) (maximumf (down a) (along a))))
    (floored (subf (minimumf (down d) (along d)) (maximumf (down b) (along b))))

/-- The share of the common part in every two boxes. -/
def ious (a b c d : FVec Ideal S4x2000 .f32) : FVec Ideal S4x2000x2000 .f32 :=
  Host.divf (shared a b c d)
    (addf (subf (addf (down (mulf (subf c a) (subf d b))) (along (mulf (subf c a) (subf d b)))) (shared a b c d))
      (broadcastInDim S4x2000x2000 ![] bcast_S_S4x2000x2000 (constant S_ .f32 0x3089705F#32)))

variable (V : Valuation τ sig (Elt Ideal))

/-- Every buffer when the loop starts. -/
abbrev E : Valuation τ sig (Elt Ideal) := StableHlo.after (preI (F := Ideal)).flatten V

theorem E_values : E V (Proc.devRef .tc main_values) = (top (V (Proc.devRef .tc main_arg1))).1 := by
  rw [E, pre_writes.out_eq 0 1 (gs := [hostOps0]) rfl V main_values (by decide +kernel)]
  simp only [List.flatten_cons, List.flatten_nil, List.append_nil]
  after_reads_simp
  rfl

theorem E_v0 : E V (Proc.devRef .tc main_v0) = broadcastInDim S4x2000x1 ![0, 1] bcast_S4x2000_S4x2000x1_0_1 (top (V (Proc.devRef .tc main_arg1))).2 := by
  rw [E, pre_writes.out_eq 0 1 (gs := [hostOps0]) rfl V main_v0 (by decide +kernel)]
  simp only [List.flatten_cons, List.flatten_nil, List.append_nil]
  after_reads_simp
  rfl

theorem E_arg0 : E V (Proc.devRef .tc main_arg0) = V (Proc.devRef .tc main_arg0) := pre_writes.kept 0 V main_arg0 (by decide +kernel)

set_option maxRecDepth 20000 in
theorem E_v1 : E V (Proc.devRef .tc main_v1) = takeRows (E V (Proc.devRef .tc main_arg0)) (E V (Proc.devRef .tc main_v0)) := by
  rw [E, pre_writes.out_eq 1 1 (gs := [hostOps0_1]) rfl V main_v1 (by decide +kernel),
    pre_writes.in_eq 1 V main_arg0 (by decide +kernel),
    pre_writes.in_eq 1 V main_v0 (by decide +kernel)]
  simp only [List.flatten_cons, List.flatten_nil, List.append_nil]
  after_reads_simp
  simp only [StableHlo.TRef.ofBuf_toBuf]
  rfl

theorem E_v7 : E V (Proc.devRef .tc main_v7) = sigmoid (E V (Proc.devRef .tc main_values)) := by
  rw [E, pre_writes.out_eq 2 1 (gs := [hostOps0_2]) rfl V main_v7 (by decide +kernel),
    pre_writes.in_eq 2 V main_values (by decide +kernel)]
  simp only [List.flatten_cons, List.flatten_nil, List.append_nil]
  after_reads_simp
  rfl

theorem E_v10 : E V (Proc.devRef .tc main_v10) = col1 (E V (Proc.devRef .tc main_v1)) := by
  rw [E, pre_writes.out_eq 2 2 (gs := [hostOps0_2, hostOps0_3]) rfl V main_v10 (by decide +kernel),
    pre_writes.in_eq 2 V main_v1 (by decide +kernel)]
  simp only [List.flatten_cons, List.flatten_nil, List.append_nil]
  after_reads_simp
  rfl

theorem E_v13 : E V (Proc.devRef .tc main_v13) = col2 (E V (Proc.devRef .tc main_v1)) := by
  rw [E, pre_writes.out_eq 4 2 (gs := [hostOps0_4, hostOps0_5]) rfl V main_v13 (by decide +kernel),
    pre_writes.in_eq 4 V main_v1 (by decide +kernel)]
  simp only [List.flatten_cons, List.flatten_nil, List.append_nil]
  after_reads_simp
  rfl

theorem E_v16 : E V (Proc.devRef .tc main_v16) = col3 (E V (Proc.devRef .tc main_v1)) := by
  rw [E, pre_writes.out_eq 6 2 (gs := [hostOps0_6, hostOps0_7]) rfl V main_v16 (by decide +kernel),
    pre_writes.in_eq 6 V main_v1 (by decide +kernel)]
  simp only [List.flatten_cons, List.flatten_nil, List.append_nil]
  after_reads_simp
  rfl

theorem E_v19 : E V (Proc.devRef .tc main_v19) = col4 (E V (Proc.devRef .tc main_v1)) := by
  rw [E, pre_writes.out_eq 8 2 (gs := [hostOps0_8, hostOps0_9]) rfl V main_v19 (by decide +kernel),
    pre_writes.in_eq 8 V main_v1 (by decide +kernel)]
  simp only [List.flatten_cons, List.flatten_nil, List.append_nil]
  after_reads_simp
  rfl

theorem E_v29 : E V (Proc.devRef .tc main_v29) = sound (E V (Proc.devRef .tc main_v10)) (E V (Proc.devRef .tc main_v13)) (E V (Proc.devRef .tc main_v16)) (E V (Proc.devRef .tc main_v19)) (E V (Proc.devRef .tc main_v7)) := by
  rw [E, pre_writes.out_eq 10 1 (gs := [hostOps0_10]) rfl V main_v29 (by decide +kernel),
    pre_writes.in_eq 10 V main_v10 (by decide +kernel),
    pre_writes.in_eq 10 V main_v13 (by decide +kernel),
    pre_writes.in_eq 10 V main_v16 (by decide +kernel),
    pre_writes.in_eq 10 V main_v19 (by decide +kernel),
    pre_writes.in_eq 10 V main_v7 (by decide +kernel)]
  simp only [List.flatten_cons, List.flatten_nil, List.append_nil]
  after_reads_simp
  rfl

theorem E_v30 : E V (Proc.devRef .tc main_v30) = marked (sound (E V (Proc.devRef .tc main_v10)) (E V (Proc.devRef .tc main_v13)) (E V (Proc.devRef .tc main_v16)) (E V (Proc.devRef .tc main_v19)) (E V (Proc.devRef .tc main_v7))) (E V (Proc.devRef .tc main_v7)) := by
  rw [E, pre_writes.out_eq 10 2 (gs := [hostOps0_10, hostOps0_11]) rfl V main_v30 (by decide +kernel),
    pre_writes.in_eq 10 V main_v10 (by decide +kernel),
    pre_writes.in_eq 10 V main_v13 (by decide +kernel),
    pre_writes.in_eq 10 V main_v16 (by decide +kernel),
    pre_writes.in_eq 10 V main_v19 (by decide +kernel),
    pre_writes.in_eq 10 V main_v7 (by decide +kernel)]
  simp only [List.flatten_cons, List.flatten_nil, List.append_nil]
  after_reads_simp
  rfl

set_option maxRecDepth 20000 in
theorem E_v32 : E V (Proc.devRef .tc main_v32) = order (E V (Proc.devRef .tc main_v30)) := by
  rw [E, pre_writes.out_eq 12 2 (gs := [hostOps0_12, hostOps0_13]) rfl V main_v32 (by decide +kernel),
    pre_writes.in_eq 12 V main_v30 (by decide +kernel)]
  simp only [List.flatten_cons, List.flatten_nil, List.append_nil]
  after_reads_simp
  simp only [StableHlo.TRef.ofBuf_toBuf]
  rfl

theorem at_v32 (x : (main_v32 : Ref sig .tc).ty.Contents (Elt Ideal)) :
    (StableHlo.TRef.of main_v32 : StableHlo.TRef sig ⟨S4x2000, .i32⟩).ofBuf x = x := rfl

theorem wrap_7 (x : IVec S4x2000 32) :
    (StableHlo.TRef.of main_call7_v5 : StableHlo.TRef sig ⟨S4x2000x1, .i32⟩).ofBuf (Val := Elt Ideal)
      (fun i => shapeCast main_call7_v5.ty.shape ((StableHlo.TRef.of main_call7_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v33 : E V (Proc.devRef .tc main_v33) = takeAt (E V (Proc.devRef .tc main_v10)) (E V (Proc.devRef .tc main_v32)) := by
  rw [E, pre_writes.out_eq 14 1 (gs := [hostOps0_14]) rfl V main_v33 (by decide +kernel),
    pre_writes.in_eq 14 V main_v10 (by decide +kernel),
    pre_writes.in_eq 14 V main_v32 (by decide +kernel)]
  simp only [List.flatten_cons, List.flatten_nil, List.append_nil]
  after_reads_simp
  simp only [StableHlo.TRef.ofBuf_toBuf]
  simp only [at_v32]
  generalize hw : (StableHlo.TRef.of main_call7_v5 : StableHlo.TRef sig ⟨S4x2000x1, .i32⟩).ofBuf (Val := Elt Ideal) _ = w
  have hw' : w = wrapAt (beforeGroup preI 14 V (Proc.devRef .tc main_v32)) := hw.symm.trans (wrap_7 _)
  clear hw
  subst hw'
  rfl

theorem wrap_8 (x : IVec S4x2000 32) :
    (StableHlo.TRef.of main_call8_v5 : StableHlo.TRef sig ⟨S4x2000x1, .i32⟩).ofBuf (Val := Elt Ideal)
      (fun i => shapeCast main_call8_v5.ty.shape ((StableHlo.TRef.of main_call8_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v34 : E V (Proc.devRef .tc main_v34) = takeAt (E V (Proc.devRef .tc main_v13)) (E V (Proc.devRef .tc main_v32)) := by
  rw [E, pre_writes.out_eq 15 1 (gs := [hostOps0_15]) rfl V main_v34 (by decide +kernel),
    pre_writes.in_eq 15 V main_v13 (by decide +kernel),
    pre_writes.in_eq 15 V main_v32 (by decide +kernel)]
  simp only [List.flatten_cons, List.flatten_nil, List.append_nil]
  after_reads_simp
  simp only [StableHlo.TRef.ofBuf_toBuf]
  simp only [at_v32]
  generalize hw : (StableHlo.TRef.of main_call8_v5 : StableHlo.TRef sig ⟨S4x2000x1, .i32⟩).ofBuf (Val := Elt Ideal) _ = w
  have hw' : w = wrapAt (beforeGroup preI 15 V (Proc.devRef .tc main_v32)) := hw.symm.trans (wrap_8 _)
  clear hw
  subst hw'
  rfl

theorem wrap_9 (x : IVec S4x2000 32) :
    (StableHlo.TRef.of main_call9_v5 : StableHlo.TRef sig ⟨S4x2000x1, .i32⟩).ofBuf (Val := Elt Ideal)
      (fun i => shapeCast main_call9_v5.ty.shape ((StableHlo.TRef.of main_call9_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v35 : E V (Proc.devRef .tc main_v35) = takeAt (E V (Proc.devRef .tc main_v16)) (E V (Proc.devRef .tc main_v32)) := by
  rw [E, pre_writes.out_eq 16 1 (gs := [hostOps0_16]) rfl V main_v35 (by decide +kernel),
    pre_writes.in_eq 16 V main_v16 (by decide +kernel),
    pre_writes.in_eq 16 V main_v32 (by decide +kernel)]
  simp only [List.flatten_cons, List.flatten_nil, List.append_nil]
  after_reads_simp
  simp only [StableHlo.TRef.ofBuf_toBuf]
  simp only [at_v32]
  generalize hw : (StableHlo.TRef.of main_call9_v5 : StableHlo.TRef sig ⟨S4x2000x1, .i32⟩).ofBuf (Val := Elt Ideal) _ = w
  have hw' : w = wrapAt (beforeGroup preI 16 V (Proc.devRef .tc main_v32)) := hw.symm.trans (wrap_9 _)
  clear hw
  subst hw'
  rfl

theorem wrap_10 (x : IVec S4x2000 32) :
    (StableHlo.TRef.of main_call10_v5 : StableHlo.TRef sig ⟨S4x2000x1, .i32⟩).ofBuf (Val := Elt Ideal)
      (fun i => shapeCast main_call10_v5.ty.shape ((StableHlo.TRef.of main_call10_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v36 : E V (Proc.devRef .tc main_v36) = takeAt (E V (Proc.devRef .tc main_v19)) (E V (Proc.devRef .tc main_v32)) := by
  rw [E, pre_writes.out_eq 17 1 (gs := [hostOps0_17]) rfl V main_v36 (by decide +kernel),
    pre_writes.in_eq 17 V main_v19 (by decide +kernel),
    pre_writes.in_eq 17 V main_v32 (by decide +kernel)]
  simp only [List.flatten_cons, List.flatten_nil, List.append_nil]
  after_reads_simp
  simp only [StableHlo.TRef.ofBuf_toBuf]
  simp only [at_v32]
  generalize hw : (StableHlo.TRef.of main_call10_v5 : StableHlo.TRef sig ⟨S4x2000x1, .i32⟩).ofBuf (Val := Elt Ideal) _ = w
  have hw' : w = wrapAt (beforeGroup preI 17 V (Proc.devRef .tc main_v32)) := hw.symm.trans (wrap_10 _)
  clear hw
  subst hw'
  rfl

theorem wrap_11 (x : IVec S4x2000 32) :
    (StableHlo.TRef.of main_call11_v5 : StableHlo.TRef sig ⟨S4x2000x1, .i32⟩).ofBuf (Val := Elt Ideal)
      (fun i => shapeCast main_call11_v5.ty.shape ((StableHlo.TRef.of main_call11_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v37 : E V (Proc.devRef .tc main_v37) = takeAt (E V (Proc.devRef .tc main_v30)) (E V (Proc.devRef .tc main_v32)) := by
  rw [E, pre_writes.out_eq 18 1 (gs := [hostOps0_18]) rfl V main_v37 (by decide +kernel),
    pre_writes.in_eq 18 V main_v30 (by decide +kernel),
    pre_writes.in_eq 18 V main_v32 (by decide +kernel)]
  simp only [List.flatten_cons, List.flatten_nil, List.append_nil]
  after_reads_simp
  simp only [StableHlo.TRef.ofBuf_toBuf]
  simp only [at_v32]
  generalize hw : (StableHlo.TRef.of main_call11_v5 : StableHlo.TRef sig ⟨S4x2000x1, .i32⟩).ofBuf (Val := Elt Ideal) _ = w
  have hw' : w = wrapAt (beforeGroup preI 18 V (Proc.devRef .tc main_v32)) := hw.symm.trans (wrap_11 _)
  clear hw
  subst hw'
  rfl

theorem wrap_12 (x : IVec S4x2000 32) :
    (StableHlo.TRef.of main_call12_v5 : StableHlo.TRef sig ⟨S4x2000x1, .i32⟩).ofBuf (Val := Elt Ideal)
      (fun i => shapeCast main_call12_v5.ty.shape ((StableHlo.TRef.of main_call12_v4 : StableHlo.TRef sig ⟨S4x2000, .i32⟩).toBuf x)
        shapeCasts_S4x2000_S4x2000x1 i) = shapeCast S4x2000x1 x shapeCasts_S4x2000_S4x2000x1 := rfl

set_option maxRecDepth 20000 in
theorem E_v38 : E V (Proc.devRef .tc main_v38) = takeBit (E V (Proc.devRef .tc main_v29)) (E V (Proc.devRef .tc main_v32)) := by
  rw [E, pre_writes.out_eq 19 1 (gs := [hostOps0_19]) rfl V main_v38 (by decide +kernel),
    pre_writes.in_eq 19 V main_v29 (by decide +kernel),
    pre_writes.in_eq 19 V main_v32 (by decide +kernel)]
  simp only [List.flatten_cons, List.flatten_nil, List.append_nil]
  after_reads_simp
  simp only [StableHlo.TRef.ofBuf_toBuf]
  simp only [at_v32]
  generalize hw : (StableHlo.TRef.of main_call12_v5 : StableHlo.TRef sig ⟨S4x2000x1, .i32⟩).ofBuf (Val := Elt Ideal) _ = w
  have hw' : w = wrapAt (beforeGroup preI 19 V (Proc.devRef .tc main_v32)) := hw.symm.trans (wrap_12 _)
  clear hw
  subst hw'
  rfl

theorem E_v77_0 : E V (Proc.devRef .tc main_v77_0) = ious (E V (Proc.devRef .tc main_v33)) (E V (Proc.devRef .tc main_v34)) (E V (Proc.devRef .tc main_v35)) (E V (Proc.devRef .tc main_v36)) := by
  rw [E, pre_writes.out_eq 20 5 (gs := [hostOps0_20, hostOps0_21, hostOps0_22, hostOps0_23, hostOps0_24]) rfl V main_v77_0 (by decide +kernel),
    pre_writes.in_eq 20 V main_v33 (by decide +kernel),
    pre_writes.in_eq 20 V main_v34 (by decide +kernel),
    pre_writes.in_eq 20 V main_v35 (by decide +kernel),
    pre_writes.in_eq 20 V main_v36 (by decide +kernel)]
  simp only [List.flatten_cons, List.flatten_nil, List.append_nil]
  after_reads_simp
  rfl

theorem E_v77_1 : E V (Proc.devRef .tc main_v77_1) = iotaInDim S2000 32 0 := by
  rw [E, pre_writes.out_eq 24 1 (gs := [hostOps0_24]) rfl V main_v77_1 (by decide +kernel)]
  simp only [List.flatten_cons, List.flatten_nil, List.append_nil]
  after_reads_simp
  rfl

theorem E_v77_2 : E V (Proc.devRef .tc main_v77_2) = constantI S_ 32 0#32 := by
  rw [E, pre_writes.out_eq 24 1 (gs := [hostOps0_24]) rfl V main_v77_2 (by decide +kernel)]
  simp only [List.flatten_cons, List.flatten_nil, List.append_nil]
  after_reads_simp
  rfl

theorem E_v77_3 : E V (Proc.devRef .tc main_v77_3) = constantI S_ 32 0#32 := by
  rw [E, pre_writes.out_eq 24 1 (gs := [hostOps0_24]) rfl V main_v77_3 (by decide +kernel)]
  simp only [List.flatten_cons, List.flatten_nil, List.append_nil]
  after_reads_simp
  rfl

theorem E_v77_4 : E V (Proc.devRef .tc main_v77_4) = (E V (Proc.devRef .tc main_v38)) := by
  rw [E, pre_writes.out_eq 24 1 (gs := [hostOps0_24]) rfl V main_v77_4 (by decide +kernel),
    pre_writes.in_eq 24 V main_v38 (by decide +kernel)]
  simp only [List.flatten_cons, List.flatten_nil, List.append_nil]
  after_reads_simp
  rfl

/-- Every buffer at the end, from those when the loop is done. -/
abbrev P : Valuation τ sig (Elt Ideal) := StableHlo.after (postI (F := Ideal)).flatten V

theorem P_v78 : P V (Proc.devRef .tc main_v78) = marked (V (Proc.devRef .tc main_v77_4)) (V (Proc.devRef .tc main_v37)) := by
  rw [P, post_writes.out_eq 0 2 (gs := [hostOps0_25, hostOps0_26]) rfl V main_v78 (by decide +kernel)]
  simp only [List.flatten_cons, List.flatten_nil, List.append_nil]
  after_reads_simp
  rfl

theorem P_values_18 : P V (Proc.devRef .tc main_values_18) = (best (P V (Proc.devRef .tc main_v78))).1 := by
  rw [P, post_writes.out_eq 2 1 (gs := [hostOps0_27]) rfl V main_values_18 (by decide +kernel),
    post_writes.in_eq 2 V main_v78 (by decide +kernel)]
  simp only [List.flatten_cons, List.flatten_nil, List.append_nil]
  after_reads_simp
  rfl

theorem P_v84 : P V (Proc.devRef .tc main_v84) = broadcastInDim S4x1000x1 ![0, 1] bcast_S4x1000_S4x1000x1_0_1 (best (P V (Proc.devRef .tc main_v78))).2 := by
  rw [P, post_writes.out_eq 2 1 (gs := [hostOps0_27]) rfl V main_v84 (by decide +kernel),
    post_writes.in_eq 2 V main_v78 (by decide +kernel)]
  simp only [List.flatten_cons, List.flatten_nil, List.append_nil]
  after_reads_simp
  rfl

theorem P_v33 : P V (Proc.devRef .tc main_v33) = V (Proc.devRef .tc main_v33) := post_writes.kept 0 V main_v33 (by decide +kernel)

theorem P_v34 : P V (Proc.devRef .tc main_v34) = V (Proc.devRef .tc main_v34) := post_writes.kept 0 V main_v34 (by decide +kernel)

theorem P_v35 : P V (Proc.devRef .tc main_v35) = V (Proc.devRef .tc main_v35) := post_writes.kept 0 V main_v35 (by decide +kernel)

theorem P_v36 : P V (Proc.devRef .tc main_v36) = V (Proc.devRef .tc main_v36) := post_writes.kept 0 V main_v36 (by decide +kernel)

theorem P_v83 : P V (Proc.devRef .tc main_v83) = boxes (P V (Proc.devRef .tc main_v33)) (P V (Proc.devRef .tc main_v34)) (P V (Proc.devRef .tc main_v35)) (P V (Proc.devRef .tc main_v36)) := by
  rw [P, post_writes.out_eq 2 1 (gs := [hostOps0_27]) rfl V main_v83 (by decide +kernel),
    post_writes.in_eq 2 V main_v33 (by decide +kernel),
    post_writes.in_eq 2 V main_v34 (by decide +kernel),
    post_writes.in_eq 2 V main_v35 (by decide +kernel),
    post_writes.in_eq 2 V main_v36 (by decide +kernel)]
  simp only [List.flatten_cons, List.flatten_nil, List.append_nil]
  after_reads_simp
  rfl

set_option maxRecDepth 20000 in
theorem P_v85 : P V (Proc.devRef .tc main_v85) = takeTop (P V (Proc.devRef .tc main_v83)) (P V (Proc.devRef .tc main_v84)) := by
  rw [P, post_writes.out_eq 3 1 (gs := [hostOps0_28]) rfl V main_v85 (by decide +kernel),
    post_writes.in_eq 3 V main_v83 (by decide +kernel),
    post_writes.in_eq 3 V main_v84 (by decide +kernel)]
  simp only [List.flatten_cons, List.flatten_nil, List.append_nil]
  after_reads_simp
  simp only [StableHlo.TRef.ofBuf_toBuf]
  rfl

theorem P_v87 : P V (Proc.devRef .tc main_v87) = concatenate S4x1000x5 2 [⟨S4x1000x4, (P V (Proc.devRef .tc main_v85))⟩, ⟨S4x1000x1, broadcastInDim S4x1000x1 ![0, 1] bcast_S4x1000_S4x1000x1_0_1 (P V (Proc.devRef .tc main_values_18))⟩] concatenates_S4x1000x4_S4x1000x1_S4x1000x5_d2 := by
  rw [P, post_writes.out_eq 4 1 (gs := [hostOps0_29]) rfl V main_v87 (by decide +kernel),
    post_writes.in_eq 4 V main_v85 (by decide +kernel),
    post_writes.in_eq 4 V main_values_18 (by decide +kernel)]
  simp only [List.flatten_cons, List.flatten_nil, List.append_nil]
  after_reads_simp
  rfl

theorem P_end : P V (Proc.devRef .tc main_v87) = answer (P V (Proc.devRef .tc main_v78))
    (boxes (V (Proc.devRef .tc main_v33)) (V (Proc.devRef .tc main_v34)) (V (Proc.devRef .tc main_v35)) (V (Proc.devRef .tc main_v36))) := by
  rw [P_v87, P_v85, P_v83, P_v84, P_values_18, P_v33, P_v34, P_v35, P_v36]
  rfl

end Cert.Proof.RI

end
-- ==== Proof.Greedy.lean ====
/-
  Greedy suppression: a box stays when no earlier box that stays covers it. Stated once for any relation "covers", with
  the overlap of two boxes and the count of zeros and ones that both programs decide it by.
-/
module

public import Idealize.ShloMosaic.PureOps.Ideal
public import Idealize.ShloMosaic.Lib.Pointwise

@[expose] public section

noncomputable section

namespace Cert.Proof

open Idealize.ShloMosaic

/-- Box `i` stays: no earlier box that stays covers it. -/
def stays (s : ℕ → ℕ → Prop) (i : ℕ) : Prop := ∀ j, (h : j < i) → s i j → ¬stays s j
termination_by i

theorem stays_iff (s : ℕ → ℕ → Prop) (i : ℕ) : stays s i ↔ ∀ j < i, s i j → ¬stays s j := by
  rw [stays]

/-- The overlap of two boxes over their union, as both programs compute it. -/
def iou (a1 a2 a3 a4 b1 b2 b3 b4 : EReal) : EReal :=
  Ideal.div (max 0 (min a3 b3 - max a1 b1) * max 0 (min a4 b4 - max a2 b2))
    ((a3 - a1) * (a4 - a2) + (b3 - b1) * (b4 - b2) - max 0 (min a3 b3 - max a1 b1) * max 0 (min a4 b4 - max a2 b2)
      + Ideal.ofBits .f32 0x3089705F#32)

/-- Four rows of coordinates, and whether box `j` of them covers box `i`. -/
def covers (x1 x2 x3 x4 : ℕ → EReal) (i j : ℕ) : Prop :=
  Ideal.ofBits .f32 0x3F333333#32 < iou (x1 i) (x2 i) (x3 i) (x4 i) (x1 j) (x2 j) (x3 j) (x4 j)

theorem half_eq : Ideal.ofBits .f32 0x3F000000#32 = ((1 / 2 : ℝ) : EReal) := by
  simp [Ideal.ofBits, Ideal.ieee, -EReal.coe_mul]; norm_num

theorem half_pos : (0 : EReal) < Ideal.ofBits .f32 0x3F000000#32 := by
  rw [half_eq]; exact_mod_cast (by norm_num : (0 : ℝ) < 1 / 2)

theorem half_lt_one : Ideal.ofBits .f32 0x3F000000#32 < (1 : EReal) := by
  rw [half_eq]; exact_mod_cast (by norm_num : (1 / 2 : ℝ) < 1)

/-- A sum of zeros and ones is over one half when one of them is a one. -/
theorem half_lt_sum {n : ℕ} (f : Fin n → EReal) (h : ∀ j, f j = 0 ∨ f j = 1) :
    Ideal.ofBits .f32 0x3F000000#32 < ∑ j, f j ↔ ∃ j, f j = 1 := by
  constructor
  · intro hs
    by_contra hn
    have : ∀ j ∈ Finset.univ, f j = 0 := fun j _ => (h j).resolve_right fun e => hn ⟨j, e⟩
    rw [Finset.sum_eq_zero this] at hs
    exact absurd hs (not_lt.mpr half_pos.le)
  · rintro ⟨j, hj⟩
    refine half_lt_one.trans_le ?_
    rw [← hj]
    refine Finset.single_le_sum (f := f) (fun i _ => ?_) (Finset.mem_univ j)
    rcases h i with e | e <;> rw [e]
    exact zero_le_one

end Cert.Proof

end
-- ==== Proof.LoopIdeal.lean ====
/-
  The reference's loop: after `k` trips the first `k` marks tell which boxes stay.
-/
module

public import proofs.«01_k».proof.Proof.HostRef
public import proofs.«01_k».proof.Proof.Greedy
public import Idealize.ShloMosaic.Lib.WordCmp
public import Idealize.ShloMosaic.Lib.Pointwise
public import Idealize.ShloMosaic.Lib.Routing.OpsOrder

@[expose] public section

set_option synthInstance.maxSize 4096
set_option synthInstance.maxHeartbeats 400000

noncomputable section

namespace Cert.Proof.RI

open Cert.ReferenceIdeal Cert.ReferenceIdeal.Gen Cert.ReferenceIdeal.Value
open Idealize.ShloMosaic Idealize.ShloMosaic.WordCmp
open Idealize.ShloMosaic.TcCoe

/-- A counter counted from the end when negative. -/
def wrapN (n : IVec S_ 32) : IVec S_ 32 :=
  select (cmpi .slt n (constantI S_ 32 0#32)) (addi n (constantI S_ 32 2000#32)) n

/-- Whether an earlier marked box covers box `n`. -/
def hit (K : IVec S4x2000 1) (M : FVec Ideal S4x2000x2000 .f32) (I : IVec S2000 32) (n : IVec S_ 32) : IVec S4 1 :=
  Host.reduce IntOp.ori (andi (andi (cmpf .ogt (shapeCast S4x2000 (Host.dynamicSlice S4x1x2000 M
      (fun k => (((![constantI S_ 32 0#32, wrapN n, constantI S_ 32 0#32] : Fin 3 → (⟨S_, .i32⟩ : BufTy).Contents (Elt Ideal))) k (Shape.Idx.first h_S_)).toInt)
      sliceFits_S4x2000x2000_S4x1x2000) shapeCasts_S4x1x2000_S4x2000)
        (broadcastInDim S4x2000 ![] bcast_S_S4x2000 (constant S_ .f32 0x3F333333#32))) K)
    (broadcastInDim S4x2000 ![0, 1] bcast_S1x2000_S4x2000_0_1 (broadcastInDim S1x2000 ![1] bcast_S2000_S1x2000_1
      (cmpi .slt I (broadcastInDim S2000 ![] bcast_S_S2000 n))))) (constantI S_ 1 0#1) reducesTo_S4x2000_S4_d1 h_S_

/-- The marks after one trip. -/
def trip (K : IVec S4x2000 1) (M : FVec Ideal S4x2000x2000 .f32) (I : IVec S2000 32) (n : IVec S_ 32) : IVec S4x2000 1 :=
  Host.dynamicUpdateSlice K (andi (Host.dynamicSlice S4x1 K
      (fun k => (((![constantI S_ 32 0#32, wrapN n] : Fin 2 → (⟨S_, .i32⟩ : BufTy).Contents (Elt Ideal))) k (Shape.Idx.first h_S_)).toInt) sliceFits_S4x2000_S4x1)
      (noti (broadcastInDim S4x1 ![0] bcast_S4_S4x1_0 (hit K M I n))))
    (fun k => (((![constantI S_ 32 0#32, wrapN n] : Fin 2 → (⟨S_, .i32⟩ : BufTy).Contents (Elt Ideal))) k (Shape.Idx.first h_S_)).toInt) updateFits_S4x2000_S4x1

theorem step_trip (V : Valuation τ sig (Elt Ideal)) : step_main_v77_4 V
    = trip (V (Proc.devRef .tc main_v77_4)) (V (Proc.devRef .tc main_v77_0)) (V (Proc.devRef .tc main_v77_1)) (V (Proc.devRef .tc main_v77_3)) := rfl

theorem wrapN_of_lt {k : ℕ} (hk : k < 2000) : wrapN (fun _ => BitVec.ofNat 32 k) = fun _ => BitVec.ofNat 32 k := by
  have h : ¬ (BitVec.ofNat 32 k).slt 0#32 = true := by
    rw [BitVec.slt_iff_toInt_lt, toInt_ofNat_of_lt (by omega)]; simp
  funext i
  simp [wrapN, select, cmpi, IntOp.cmpi, constantI, h, Scalar.select]

theorem startRow {k : ℕ} (hk : k < 2000) (a : Fin 3) :
    (((![constantI S_ 32 0#32, wrapN (fun _ => BitVec.ofNat 32 k), constantI S_ 32 0#32] : Fin 3 → (⟨S_, .i32⟩ : BufTy).Contents (Elt Ideal))) a (Shape.Idx.first h_S_)).toInt
      = ((![0, k, 0] : Fin 3 → ℕ) a : Int) := by
  rw [wrapN_of_lt hk]
  fin_cases a
  · rfl
  · exact toInt_ofNat_of_lt (by show k < _; omega)
  · rfl

theorem startAt {k : ℕ} (hk : k < 2000) (a : Fin 2) :
    (((![constantI S_ 32 0#32, wrapN (fun _ => BitVec.ofNat 32 k)] : Fin 2 → (⟨S_, .i32⟩ : BufTy).Contents (Elt Ideal))) a (Shape.Idx.first h_S_)).toInt
      = ((![0, k] : Fin 2 → ℕ) a : Int) := by
  rw [wrapN_of_lt hk]
  fin_cases a
  · rfl
  · exact toInt_ofNat_of_lt (by show k < _; omega)

theorem fits3 {k : ℕ} (hk : k < 2000) : S4x2000x2000.Slices ![0, k, 0] S4x1x2000 :=
  ⟨rfl, fun a => by fin_cases a <;> simp [Shape.size] <;> omega⟩

theorem fits2 {k : ℕ} (hk : k < 2000) : S4x2000.Slices ![0, k] S4x1 :=
  ⟨rfl, fun a => by fin_cases a <;> simp [Shape.size] <;> omega⟩

theorem ofBool_one (p : Bool) : BitVec.ofBool p = 1#1 ↔ p = true := by cases p <;> decide

theorem hit_iff (K : IVec S4x2000 1) (M : FVec Ideal S4x2000x2000 .f32) {k : ℕ} (hk : k < 2000) (b : Fin 4) :
    hit K M (iotaInDim S2000 32 0) (fun _ => BitVec.ofNat 32 k) (ix1 b) = 1#1
      ↔ ∃ j : Fin 2000, j.val < k ∧ Ideal.ofBits .f32 0x3F333333#32 < M (ix3 b ⟨k, hk⟩ j) ∧ K (ix2 b j) = 1#1 := by
  unfold hit
  rw [dynamicSlice_eq_extract _ _ _ _ ![0, k, 0] (fits3 hk) (startRow hk)]
  pointwise
  rw [Routing.fold_ori]
  have hc (j : Fin 2000) : IntOp.cmpi .slt (BitVec.ofNat 32 j.val) (BitVec.ofNat 32 k) = 1#1 ↔ j.val < k := by
    show BitVec.ofBool ((BitVec.ofNat 32 j.val).slt (BitVec.ofNat 32 k)) = 1#1 ↔ _
    rw [ofBool_one, BitVec.slt_iff_toInt_lt, toInt_ofNat_of_lt (by omega), toInt_ofNat_of_lt (by omega)]
    omega
  constructor
  · rintro ⟨j, -, h⟩
    obtain ⟨h1, h2⟩ := IntOp.andi_eq_one.1 h
    obtain ⟨h3, h4⟩ := IntOp.andi_eq_one.1 h1
    exact ⟨j, (hc j).1 h2, of_decide_eq_true ((ofBool_one _).1 h3), h4⟩
  · rintro ⟨j, h2, h3, h4⟩
    exact ⟨j, Finset.mem_univ j, IntOp.andi_eq_one.2 ⟨IntOp.andi_eq_one.2 ⟨(ofBool_one _).2 (decide_eq_true h3), h4⟩, (hc j).2 h2⟩⟩

theorem trip_at (K : IVec S4x2000 1) (M : FVec Ideal S4x2000x2000 .f32) {k : ℕ} (hk : k < 2000) (b : Fin 4) (j : Fin 2000) :
    trip K M (iotaInDim S2000 32 0) (fun _ => BitVec.ofNat 32 k) (ix2 b j)
      = if j.val = k then IntOp.andi (K (ix2 b j)) (~~~ hit K M (iotaInDim S2000 32 0) (fun _ => BitVec.ofNat 32 k) (ix1 b)) else K (ix2 b j) := by
  unfold trip
  rw [dynamicUpdateSlice_eq_update _ _ _ _ ![0, k] (fits2 hk) (startAt hk), dynamicSlice_eq_extract _ _ _ _ ![0, k] (fits2 hk) (startAt hk)]
  unfold updateSlice
  by_cases h : j.val = k
  · subst h
    rw [if_pos rfl, dif_pos (by intro a; fin_cases a <;> simp [Shape.size])]
    refine congrArg₂ IntOp.andi (congrArg K ?_) (congrArg (fun x => ~~~ hit K M (iotaInDim S2000 32 0) (fun _ => BitVec.ofNat 32 j.val) x) ?_)
    · funext a; fin_cases a <;> apply Fin.ext <;> simp
    · funext a; fin_cases a; apply Fin.ext; simp
  · rw [if_neg h, dif_neg]
    intro hin
    have := hin 1
    simp [Shape.size] at this
    omega

/-- The marks after `k` trips over a table of overlaps, all boxes marked at first. -/
theorem marks_at (M : FVec Ideal S4x2000x2000 .f32) (K : ℕ → IVec S4x2000 1) (h0 : ∀ i, K 0 i = 1#1)
    (hs : ∀ k, k < 2000 → K (k + 1) = trip (K k) M (iotaInDim S2000 32 0) (fun _ => BitVec.ofNat 32 k))
    (S : Fin 4 → ℕ → ℕ → Prop)
    (hS : ∀ (b : Fin 4) (i j : Fin 2000), S b i.val j.val ↔ Ideal.ofBits .f32 0x3F333333#32 < M (ix3 b i j)) :
    ∀ k, k ≤ 2000 → ∀ (b : Fin 4) (j : Fin 2000), K k (ix2 b j) = 1#1 ↔ (j.val < k → stays (S b) j.val)
  | 0, _, b, j => by rw [h0]; exact ⟨fun _ h => absurd h (Nat.not_lt_zero _), fun _ => rfl⟩
  | k + 1, hk, b, j => by
    have ih := marks_at M K h0 hs S hS k (by omega)
    rw [hs k (by omega), trip_at _ _ (by omega)]
    split
    case isFalse h =>
      rw [ih b j]
      constructor
      · exact fun g hj => g (by omega)
      · exact fun g hj => g (by omega)
    case isTrue h =>
      have hK : K k (ix2 b j) = 1#1 := (ih b j).2 fun hj => absurd hj (by omega)
      rw [hK]
      have hn (x : BitVec 1) : IntOp.andi 1#1 (~~~x) = 1#1 ↔ ¬ x = 1#1 := by revert x; decide
      rw [hn, hit_iff _ _ (by omega)]
      have hj : (⟨k, by omega⟩ : Fin 2000) = j := Fin.ext h.symm
      constructor
      · intro g _
        rw [stays_iff]
        intro i hi hc hst
        refine g ⟨⟨i, by omega⟩, by show i < k; omega, ?_, (ih b ⟨i, by omega⟩).2 fun _ => hst⟩
        rw [hj]
        exact (hS b j ⟨i, by omega⟩).1 hc
      · rintro g ⟨i, hi, hm, hKi⟩
        have g' := g (by omega)
        rw [stays_iff] at g'
        rw [hj] at hm
        exact g' i.val (by omega) ((hS b j i).2 hm) ((ih b i).1 hKi hi)

end Cert.Proof.RI

end
-- ==== Proof.HostIdeal.lean ====
/-
  What the lines around the kernel compute, at the extended reals.
-/
module

public import proofs.«01_k».proof.Proof.MainIdeal
public import proofs.«01_k».proof.Proof.Lines
public import proofs.«01_k».proof.Proof.HostWords

@[expose] public section

noncomputable section

namespace Cert.Proof.KI

open Cert.KernelIdeal Cert.KernelIdeal.Gen
open Idealize.ShloMosaic
open Idealize.ShloMosaic.TcCoe

/-- The buffers the lines before the kernel write, by groups. -/
abbrev preW : List (List (Ref sig .tc)) :=
  [[main_values, main_indices, main_v0, main_v1_0, main_v1_1, main_v2, main_v3, main_v4, main_v5],
    [main_call0_c, main_call0_v0, main_call0_v1, main_call0_c_0, main_call0_v2, main_call0_v3, main_call0_v4, main_call0_c_1, main_call0_c_2, main_call0_v5, main_call0_v6, main_call0_v7, main_call0_v8, main_call0_v9, main_call0_v10, main_call0_c_3, main_call0_v11, main_call0_v12, main_call0_v13, main_call0_cst, main_call0_v14, main_v6],
    [main_v7, main_v8, main_cst, main_cst_0],
    [main_call1_v0, main_call1_v1, main_call1_v2, main_call1_v3, main_call1_v4, main_v9],
    [main_v10, main_v11, main_cst_1, main_cst_2],
    [main_call2_v0, main_call2_v1, main_call2_v2, main_call2_v3, main_call2_v4, main_v12],
    [main_v13, main_v14, main_cst_3, main_cst_4],
    [main_call3_v0, main_call3_v1, main_call3_v2, main_call3_v3, main_call3_v4, main_v15],
    [main_v16, main_v17, main_cst_5, main_cst_6],
    [main_call4_v0, main_call4_v1, main_call4_v2, main_call4_v3, main_call4_v4, main_v18],
    [main_v19, main_v20, main_cst_7, main_v21, main_v22, main_cst_8, main_v23, main_v24, main_c],
    [main_call5_v0, main_v25],
    [main_c_9],
    [main_call6_v0, main_v26],
    [main_c_10],
    [main_call7_v0, main_v27],
    [main_c_11],
    [main_call8_v0, main_v28],
    [main_v29, main_v30, main_v31, main_v32, main_v33, main_v34, main_v35, main_v36, main_v37, main_v38, main_v39, main_v40]]

theorem pre_writes : LinesWrite (pre (F := Ideal)) preW := rfl

/-- The buffers the lines after it write. -/
abbrev postW : List (List (Ref sig .tc)) :=
  [[main_v42, main_v43, main_cst_12, main_v44, main_v45, main_cst_13],
    [main_call9_v0, main_call9_v1, main_v46],
    [main_values_14, main_indices_15, main_v47, main_v48, main_v49, main_v50, main_v51, main_v52],
    [main_call10_c, main_call10_v0, main_call10_v1, main_call10_c_0, main_call10_v2, main_call10_v3, main_call10_v4, main_call10_c_1, main_call10_c_2, main_call10_v5, main_call10_v6, main_call10_v7, main_call10_v8, main_call10_v9, main_call10_v10, main_call10_c_3, main_call10_v11, main_call10_v12, main_call10_v13, main_call10_cst, main_call10_v14, main_v53],
    [main_v54, main_v55]]

theorem post_writes : LinesWrite (post (F := Ideal)) postW := rfl

variable (V : Valuation τ sig (Elt Ideal))

/-- Every buffer when the kernel starts. -/
abbrev E : Valuation τ sig (Elt Ideal) := StableHlo.after (pre (F := Ideal)).flatten V

theorem E_v3 : E V (Proc.devRef .tc main_v3) = Host.negf (extractStridedSlice S4x2000 ![0, 0] (sorted (V (Proc.devRef .tc main_arg1))).1 slices_S4x2048_S4x2000_0_0) := by
  rw [E, pre_writes.out_eq 0 1 (gs := [hostOps0]) rfl V main_v3 (by decide +kernel)]
  simp only [List.flatten_cons, List.flatten_nil, List.append_nil]
  after_reads_simp
  rfl

theorem E_v5 : E V (Proc.devRef .tc main_v5) = broadcastInDim S4x2000x1 ![0, 1] bcast_S4x2000_S4x2000x1_0_1 (extractStridedSlice S4x2000 ![0, 0] (sorted (V (Proc.devRef .tc main_arg1))).2 slices_S4x2048_S4x2000_0_0) := by
  rw [E, pre_writes.out_eq 0 1 (gs := [hostOps0]) rfl V main_v5 (by decide +kernel)]
  simp only [List.flatten_cons, List.flatten_nil, List.append_nil]
  after_reads_simp
  rfl

theorem E_arg0 : E V (Proc.devRef .tc main_arg0) = V (Proc.devRef .tc main_arg0) := pre_writes.kept 0 V main_arg0 (by decide +kernel)

set_option maxRecDepth 20000 in
theorem E_v6 : E V (Proc.devRef .tc main_v6) = takeRows (E V (Proc.devRef .tc main_arg0)) (E V (Proc.devRef .tc main_v5)) := by
  rw [E, pre_writes.out_eq 1 1 (gs := [hostOps0_1]) rfl V main_v6 (by decide +kernel),
    pre_writes.in_eq 1 V main_arg0 (by decide +kernel),
    pre_writes.in_eq 1 V main_v5 (by decide +kernel)]
  simp only [List.flatten_cons, List.flatten_nil, List.append_nil]
  after_reads_simp
  simp only [StableHlo.TRef.ofBuf_toBuf]
  rfl

theorem E_v9 : E V (Proc.devRef .tc main_v9) = col1 (E V (Proc.devRef .tc main_v6)) := by
  rw [E, pre_writes.out_eq 2 2 (gs := [hostOps0_2, hostOps0_3]) rfl V main_v9 (by decide +kernel),
    pre_writes.in_eq 2 V main_v6 (by decide +kernel)]
  simp only [List.flatten_cons, List.flatten_nil, List.append_nil]
  after_reads_simp
  rfl

theorem E_v12 : E V (Proc.devRef .tc main_v12) = col2 (E V (Proc.devRef .tc main_v6)) := by
  rw [E, pre_writes.out_eq 4 2 (gs := [hostOps0_4, hostOps0_5]) rfl V main_v12 (by decide +kernel),
    pre_writes.in_eq 4 V main_v6 (by decide +kernel)]
  simp only [List.flatten_cons, List.flatten_nil, List.append_nil]
  after_reads_simp
  rfl

theorem E_v15 : E V (Proc.devRef .tc main_v15) = col3 (E V (Proc.devRef .tc main_v6)) := by
  rw [E, pre_writes.out_eq 6 2 (gs := [hostOps0_6, hostOps0_7]) rfl V main_v15 (by decide +kernel),
    pre_writes.in_eq 6 V main_v6 (by decide +kernel)]
  simp only [List.flatten_cons, List.flatten_nil, List.append_nil]
  after_reads_simp
  rfl

theorem E_v18 : E V (Proc.devRef .tc main_v18) = col4 (E V (Proc.devRef .tc main_v6)) := by
  rw [E, pre_writes.out_eq 8 2 (gs := [hostOps0_8, hostOps0_9]) rfl V main_v18 (by decide +kernel),
    pre_writes.in_eq 8 V main_v6 (by decide +kernel)]
  simp only [List.flatten_cons, List.flatten_nil, List.append_nil]
  after_reads_simp
  rfl

theorem E_v24 : E V (Proc.devRef .tc main_v24) = sigmoid (E V (Proc.devRef .tc main_v3)) := by
  rw [E, pre_writes.out_eq 10 1 (gs := [hostOps0_10]) rfl V main_v24 (by decide +kernel),
    pre_writes.in_eq 10 V main_v3 (by decide +kernel)]
  simp only [List.flatten_cons, List.flatten_nil, List.append_nil]
  after_reads_simp
  rfl

theorem E_v25 : E V (Proc.devRef .tc main_v25) = padded (E V (Proc.devRef .tc main_v9)) := by
  rw [E, pre_writes.out_eq 10 2 (gs := [hostOps0_10, hostOps0_11]) rfl V main_v25 (by decide +kernel),
    pre_writes.in_eq 10 V main_v9 (by decide +kernel)]
  simp only [List.flatten_cons, List.flatten_nil, List.append_nil]
  after_reads_simp
  rfl

theorem E_v26 : E V (Proc.devRef .tc main_v26) = padded (E V (Proc.devRef .tc main_v12)) := by
  rw [E, pre_writes.out_eq 12 2 (gs := [hostOps0_12, hostOps0_13]) rfl V main_v26 (by decide +kernel),
    pre_writes.in_eq 12 V main_v12 (by decide +kernel)]
  simp only [List.flatten_cons, List.flatten_nil, List.append_nil]
  after_reads_simp
  rfl

theorem E_v27 : E V (Proc.devRef .tc main_v27) = padded (E V (Proc.devRef .tc main_v15)) := by
  rw [E, pre_writes.out_eq 14 2 (gs := [hostOps0_14, hostOps0_15]) rfl V main_v27 (by decide +kernel),
    pre_writes.in_eq 14 V main_v15 (by decide +kernel)]
  simp only [List.flatten_cons, List.flatten_nil, List.append_nil]
  after_reads_simp
  rfl

theorem E_v28 : E V (Proc.devRef .tc main_v28) = padded (E V (Proc.devRef .tc main_v18)) := by
  rw [E, pre_writes.out_eq 16 2 (gs := [hostOps0_16, hostOps0_17]) rfl V main_v28 (by decide +kernel),
    pre_writes.in_eq 16 V main_v18 (by decide +kernel)]
  simp only [List.flatten_cons, List.flatten_nil, List.append_nil]
  after_reads_simp
  rfl

theorem E_v29 : E V (Proc.devRef .tc main_v29) = broadcastInDim S4x1x2048 ![0, 2] bcast_S4x2048_S4x1x2048_0_2 (E V (Proc.devRef .tc main_v25)) := by
  rw [E, pre_writes.out_eq 18 1 (gs := [hostOps0_18]) rfl V main_v29 (by decide +kernel),
    pre_writes.in_eq 18 V main_v25 (by decide +kernel)]
  simp only [List.flatten_cons, List.flatten_nil, List.append_nil]
  after_reads_simp

theorem E_v30 : E V (Proc.devRef .tc main_v30) = broadcastInDim S4x1x2048 ![0, 2] bcast_S4x2048_S4x1x2048_0_2 (E V (Proc.devRef .tc main_v26)) := by
  rw [E, pre_writes.out_eq 18 1 (gs := [hostOps0_18]) rfl V main_v30 (by decide +kernel),
    pre_writes.in_eq 18 V main_v26 (by decide +kernel)]
  simp only [List.flatten_cons, List.flatten_nil, List.append_nil]
  after_reads_simp

theorem E_v31 : E V (Proc.devRef .tc main_v31) = broadcastInDim S4x1x2048 ![0, 2] bcast_S4x2048_S4x1x2048_0_2 (E V (Proc.devRef .tc main_v27)) := by
  rw [E, pre_writes.out_eq 18 1 (gs := [hostOps0_18]) rfl V main_v31 (by decide +kernel),
    pre_writes.in_eq 18 V main_v27 (by decide +kernel)]
  simp only [List.flatten_cons, List.flatten_nil, List.append_nil]
  after_reads_simp

theorem E_v32 : E V (Proc.devRef .tc main_v32) = broadcastInDim S4x1x2048 ![0, 2] bcast_S4x2048_S4x1x2048_0_2 (E V (Proc.devRef .tc main_v28)) := by
  rw [E, pre_writes.out_eq 18 1 (gs := [hostOps0_18]) rfl V main_v32 (by decide +kernel),
    pre_writes.in_eq 18 V main_v28 (by decide +kernel)]
  simp only [List.flatten_cons, List.flatten_nil, List.append_nil]
  after_reads_simp

theorem E_v33 : E V (Proc.devRef .tc main_v33) = broadcastInDim S4x2048x1 ![0, 1] bcast_S4x2048_S4x2048x1_0_1 (E V (Proc.devRef .tc main_v25)) := by
  rw [E, pre_writes.out_eq 18 1 (gs := [hostOps0_18]) rfl V main_v33 (by decide +kernel),
    pre_writes.in_eq 18 V main_v25 (by decide +kernel)]
  simp only [List.flatten_cons, List.flatten_nil, List.append_nil]
  after_reads_simp

theorem E_v34 : E V (Proc.devRef .tc main_v34) = broadcastInDim S4x2048x1 ![0, 1] bcast_S4x2048_S4x2048x1_0_1 (E V (Proc.devRef .tc main_v26)) := by
  rw [E, pre_writes.out_eq 18 1 (gs := [hostOps0_18]) rfl V main_v34 (by decide +kernel),
    pre_writes.in_eq 18 V main_v26 (by decide +kernel)]
  simp only [List.flatten_cons, List.flatten_nil, List.append_nil]
  after_reads_simp

theorem E_v35 : E V (Proc.devRef .tc main_v35) = broadcastInDim S4x2048x1 ![0, 1] bcast_S4x2048_S4x2048x1_0_1 (E V (Proc.devRef .tc main_v27)) := by
  rw [E, pre_writes.out_eq 18 1 (gs := [hostOps0_18]) rfl V main_v35 (by decide +kernel),
    pre_writes.in_eq 18 V main_v27 (by decide +kernel)]
  simp only [List.flatten_cons, List.flatten_nil, List.append_nil]
  after_reads_simp

theorem E_v36 : E V (Proc.devRef .tc main_v36) = broadcastInDim S4x2048x1 ![0, 1] bcast_S4x2048_S4x2048x1_0_1 (E V (Proc.devRef .tc main_v28)) := by
  rw [E, pre_writes.out_eq 18 1 (gs := [hostOps0_18]) rfl V main_v36 (by decide +kernel),
    pre_writes.in_eq 18 V main_v28 (by decide +kernel)]
  simp only [List.flatten_cons, List.flatten_nil, List.append_nil]
  after_reads_simp

theorem E_v37 : E V (Proc.devRef .tc main_v37) = shapeCast S4x16x1x128 (E V (Proc.devRef .tc main_v25)) shapeCasts_S4x2048_S4x16x1x128 := by
  rw [E, pre_writes.out_eq 18 1 (gs := [hostOps0_18]) rfl V main_v37 (by decide +kernel),
    pre_writes.in_eq 18 V main_v25 (by decide +kernel)]
  simp only [List.flatten_cons, List.flatten_nil, List.append_nil]
  after_reads_simp
  rfl

theorem E_v38 : E V (Proc.devRef .tc main_v38) = shapeCast S4x16x1x128 (E V (Proc.devRef .tc main_v26)) shapeCasts_S4x2048_S4x16x1x128 := by
  rw [E, pre_writes.out_eq 18 1 (gs := [hostOps0_18]) rfl V main_v38 (by decide +kernel),
    pre_writes.in_eq 18 V main_v26 (by decide +kernel)]
  simp only [List.flatten_cons, List.flatten_nil, List.append_nil]
  after_reads_simp
  rfl

theorem E_v39 : E V (Proc.devRef .tc main_v39) = shapeCast S4x16x1x128 (E V (Proc.devRef .tc main_v27)) shapeCasts_S4x2048_S4x16x1x128 := by
  rw [E, pre_writes.out_eq 18 1 (gs := [hostOps0_18]) rfl V main_v39 (by decide +kernel),
    pre_writes.in_eq 18 V main_v27 (by decide +kernel)]
  simp only [List.flatten_cons, List.flatten_nil, List.append_nil]
  after_reads_simp
  rfl

theorem E_v40 : E V (Proc.devRef .tc main_v40) = shapeCast S4x16x1x128 (E V (Proc.devRef .tc main_v28)) shapeCasts_S4x2048_S4x16x1x128 := by
  rw [E, pre_writes.out_eq 18 1 (gs := [hostOps0_18]) rfl V main_v40 (by decide +kernel),
    pre_writes.in_eq 18 V main_v28 (by decide +kernel)]
  simp only [List.flatten_cons, List.flatten_nil, List.append_nil]
  after_reads_simp
  rfl

/-- Every buffer at the end, from those when the kernel is done. -/
abbrev P : Valuation τ sig (Elt Ideal) := StableHlo.after (post (F := Ideal)).flatten V

theorem P_v46 : P V (Proc.devRef .tc main_v46) = marked (keptBits (V (Proc.devRef .tc main_v41))) (V (Proc.devRef .tc main_v24)) := by
  rw [P, post_writes.out_eq 0 2 (gs := [hostOps1, hostOps1_1]) rfl V main_v46 (by decide +kernel)]
  simp only [List.flatten_cons, List.flatten_nil, List.append_nil]
  after_reads_simp
  rfl

theorem P_values_14 : P V (Proc.devRef .tc main_values_14) = (best (P V (Proc.devRef .tc main_v46))).1 := by
  rw [P, post_writes.out_eq 2 1 (gs := [hostOps1_2]) rfl V main_values_14 (by decide +kernel),
    post_writes.in_eq 2 V main_v46 (by decide +kernel)]
  simp only [List.flatten_cons, List.flatten_nil, List.append_nil]
  after_reads_simp
  rfl

theorem P_v52 : P V (Proc.devRef .tc main_v52) = broadcastInDim S4x1000x1 ![0, 1] bcast_S4x1000_S4x1000x1_0_1 (best (P V (Proc.devRef .tc main_v46))).2 := by
  rw [P, post_writes.out_eq 2 1 (gs := [hostOps1_2]) rfl V main_v52 (by decide +kernel),
    post_writes.in_eq 2 V main_v46 (by decide +kernel)]
  simp only [List.flatten_cons, List.flatten_nil, List.append_nil]
  after_reads_simp
  rfl

theorem P_v9 : P V (Proc.devRef .tc main_v9) = V (Proc.devRef .tc main_v9) := post_writes.kept 0 V main_v9 (by decide +kernel)

theorem P_v12 : P V (Proc.devRef .tc main_v12) = V (Proc.devRef .tc main_v12) := post_writes.kept 0 V main_v12 (by decide +kernel)

theorem P_v15 : P V (Proc.devRef .tc main_v15) = V (Proc.devRef .tc main_v15) := post_writes.kept 0 V main_v15 (by decide +kernel)

theorem P_v18 : P V (Proc.devRef .tc main_v18) = V (Proc.devRef .tc main_v18) := post_writes.kept 0 V main_v18 (by decide +kernel)

theorem P_v51 : P V (Proc.devRef .tc main_v51) = boxes (P V (Proc.devRef .tc main_v9)) (P V (Proc.devRef .tc main_v12)) (P V (Proc.devRef .tc main_v15)) (P V (Proc.devRef .tc main_v18)) := by
  rw [P, post_writes.out_eq 2 1 (gs := [hostOps1_2]) rfl V main_v51 (by decide +kernel),
    post_writes.in_eq 2 V main_v9 (by decide +kernel),
    post_writes.in_eq 2 V main_v12 (by decide +kernel),
    post_writes.in_eq 2 V main_v15 (by decide +kernel),
    post_writes.in_eq 2 V main_v18 (by decide +kernel)]
  simp only [List.flatten_cons, List.flatten_nil, List.append_nil]
  after_reads_simp
  rfl

set_option maxRecDepth 20000 in
theorem P_v53 : P V (Proc.devRef .tc main_v53) = takeTop (P V (Proc.devRef .tc main_v51)) (P V (Proc.devRef .tc main_v52)) := by
  rw [P, post_writes.out_eq 3 1 (gs := [hostOps1_3]) rfl V main_v53 (by decide +kernel),
    post_writes.in_eq 3 V main_v51 (by decide +kernel),
    post_writes.in_eq 3 V main_v52 (by decide +kernel)]
  simp only [List.flatten_cons, List.flatten_nil, List.append_nil]
  after_reads_simp
  simp only [StableHlo.TRef.ofBuf_toBuf]
  rfl

theorem P_v55 : P V (Proc.devRef .tc main_v55) = concatenate S4x1000x5 2 [⟨S4x1000x4, (P V (Proc.devRef .tc main_v53))⟩, ⟨S4x1000x1, broadcastInDim S4x1000x1 ![0, 1] bcast_S4x1000_S4x1000x1_0_1 (P V (Proc.devRef .tc main_values_14))⟩] concatenates_S4x1000x4_S4x1000x1_S4x1000x5_d2 := by
  rw [P, post_writes.out_eq 4 1 (gs := [hostOps1_4]) rfl V main_v55 (by decide +kernel),
    post_writes.in_eq 4 V main_v53 (by decide +kernel),
    post_writes.in_eq 4 V main_values_14 (by decide +kernel)]
  simp only [List.flatten_cons, List.flatten_nil, List.append_nil]
  after_reads_simp
  rfl

theorem P_end : P V (Proc.devRef .tc main_v55) = answer (P V (Proc.devRef .tc main_v46))
    (boxes (V (Proc.devRef .tc main_v9)) (V (Proc.devRef .tc main_v12)) (V (Proc.devRef .tc main_v15)) (V (Proc.devRef .tc main_v18))) := by
  rw [P_v55, P_v53, P_v51, P_v52, P_values_14, P_v9, P_v12, P_v15, P_v18]
  rfl

end Cert.Proof.KI

end
-- ==== Proof.TileIdeal.lean ====
/-
  One grid point of the kernel, at the extended reals: from the boxes and the keep bits of the earlier tiles it computes
  the greedy keep bits of its own tile.
-/
module

public import proofs.«01_k».proof.Proof.RunIdeal
public import proofs.«01_k».proof.Proof.Greedy

@[expose] public section

noncomputable section

namespace Cert.Proof.KI

open Cert.KernelIdeal Cert.KernelIdeal.Gen
open Idealize.ShloMosaic
open scoped Classical

/-! ### The payloads, read at an index -/

theorem cross_apply (c1 c2 c3 c4 : FVec Ideal S4x1x2048 .f32) (r1 r2 r3 r4 : FVec Ideal S4x128x1 .f32) (b : Fin 4) (r : Fin 128)
    (j : Fin 2048) :
    k0_pay21 (F := Ideal) (k0_pay5 c1) (k0_pay6 c2) (k0_pay7 c3) (k0_pay8 c4) (k0_pay9 r1) (k0_pay10 r2) (k0_pay11 r3) (k0_pay12 r4) (ix3 b r j)
      = BitVec.ofBool (decide (Ideal.ofBits .f32 0x3F333333#32
        < iou (r1 (ix3 b r 0)) (r2 (ix3 b r 0)) (r3 (ix3 b r 0)) (r4 (ix3 b r 0)) (c1 (ix3 b 0 j)) (c2 (ix3 b 0 j)) (c3 (ix3 b 0 j)) (c4 (ix3 b 0 j)))) := by
  pointwise [k0_pay21, k0_pay19, k0_pay5, k0_pay6, k0_pay7, k0_pay8, k0_pay9, k0_pay10, k0_pay11, k0_pay12]
  rfl

theorem guess_apply (S : IVec S4x128x2048 1) (scr : FVec Ideal S4x2048x1 .f32) (b : Fin 4) (r : Fin 128) :
    k0_pay24 (F := Ideal) S k0_pay22 k0_pay23 scr (ix3 b r 0)
      = if Ideal.ofBits .f32 0x3F000000#32 < ∑ j : Fin 2048, Scalar.select (S (ix3 b r j)) (scr (ix3 b j 0)) 0 then 0 else 1 := by
  pointwise [k0_pay24, k0_pay22, k0_pay23]

theorem slt_fin (j r : Fin 128) : IntOp.cmpi .slt (BitVec.ofNat 32 j.val) (BitVec.ofNat 32 r.val) = BitVec.ofBool (decide (j < r)) := by
  have h : ∀ n : ℕ, n < 128 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  show BitVec.ofBool (BitVec.slt _ _) = _
  rw [BitVec.slt, h _ j.isLt, h _ r.isLt]
  exact congrArg BitVec.ofBool (decide_eq_decide.mpr (by rw [Fin.lt_def]; exact Int.ofNat_lt))

theorem tileS_apply (r1 r2 r3 r4 : FVec Ideal S4x128x1 .f32) (t1 t2 t3 t4 : FVec Ideal S4x1x1x128 .f32) (b : Fin 4) (r j : Fin 128) :
    tileS (F := Ideal) r1 r2 r3 r4 t1 t2 t3 t4 (ix3 b r j)
      = if Ideal.ofBits .f32 0x3F333333#32
          < iou (r1 (ix3 b r 0)) (r2 (ix3 b r 0)) (r3 (ix3 b r 0)) (r4 (ix3 b r 0)) (t1 (ix4 b 0 0 j)) (t2 (ix4 b 0 0 j)) (t3 (ix4 b 0 0 j)) (t4 (ix4 b 0 0 j))
        ∧ j < r then 1 else 0 := by
  pointwise [tileS, k0_pay25, k0_pay19, k0_pay20, k0_pay9, k0_pay10, k0_pay11, k0_pay12, k0_pay13, k0_pay14, k0_pay15, k0_pay16, k0_pay17, k0_pay18]
  rw [slt_fin]
  unfold iou
  generalize Ideal.div _ _ = q
  by_cases h : Ideal.ofBits .f32 0x3F333333#32 < q <;> by_cases h' : j < r <;> simp [h, h', Scalar.select, IntOp.andi]

theorem trip_apply (s : FVec Ideal S4x128x128 .f32) (g k : FVec Ideal S4x128x1 .f32) (b : Fin 4) (r : Fin 128) :
    k0_pay2 (F := Ideal) s g k (ix3 b r 0)
      = if Ideal.ofBits .f32 0x3F000000#32 < ∑ j : Fin 128, s (ix3 b r j) * k (ix3 b j 0) then 0 else g (ix3 b r 0) := by
  pointwise [k0_pay2]

theorem eq_ix3_unit (i : S4x128x1.Idx) : i = ix3 (n0 := 4) (n1 := 128) (n2 := 1) (i 0) (i 1) 0 := by
  funext a
  match a with
  | 0 => rfl
  | 1 => rfl
  | 2 => exact Subsingleton.elim (α := Fin 1) _ _

/-- When the loop's flag says nothing changed, nothing did. -/
theorem unchanged (s : FVec Ideal S4x128x128 .f32) (g k : FVec Ideal S4x128x1 .f32)
    (h : Scalar.cmpf .ogt (k0_pay3 (F := Ideal) s g k) (Scalar.ofBits .f32 0x00000000#32) ≠ 1#1) : k0_pay2 s g k = k := by
  have h0 : ¬(0 : EReal) < k0_pay3 (F := Ideal) s g k := by
    intro hl
    apply h
    have hl' : Ideal.ofBits .f32 0x00000000#32 < k0_pay3 (F := Ideal) s g k := by rw [Ideal.ofBits_zero_f32]; exact hl
    exact congrArg BitVec.ofBool (decide_eq_true hl')
  have e : k0_pay3 (F := Ideal) s g k = Finset.fold max (Ideal.ofBits .f32 0xFF800000#32)
      (fun x : S1x4x128x1.Idx => if k0_pay2 s g k (ix3 (x 1) (x 2) 0) ≠ k (ix3 (x 1) (x 2) 0) then (1 : EReal) else 0)
      (Finset.univ.filter fun i => reduces_S1x4x128x1_S1.drop i = ix1 0) := by
    pointwise [k0_pay3]
  rw [e] at h0
  funext i
  rw [eq_ix3_unit i]
  by_contra hne
  apply h0
  refine (zero_lt_one (α := EReal)).trans_le (Finset.le_fold_max _ |>.mpr (Or.inr ⟨ix4 0 (i 0) (i 1) 0, ?_, ?_⟩))
  · refine Finset.mem_filter.mpr ⟨Finset.mem_univ _, ?_⟩
    funext a
    match a with
    | 0 => exact Subsingleton.elim (α := Fin 1) _ _
  · exact (if_pos hne).ge

/-! ### The tile -/

/-- A truth value as the kernel's number. -/
def bit (p : Prop) : EReal := if p then 1 else 0

theorem bit_cases (p : Prop) : bit p = 0 ∨ bit p = 1 := by
  unfold bit; by_cases h : p <;> simp [h]

theorem bit_eq_one (p : Prop) : bit p = 1 ↔ p := by
  unfold bit; by_cases h : p <;> simp [h]

section tile
variable (x1 x2 x3 x4 : Fin 4 → ℕ → EReal) (t : ℕ)

/-- Which boxes cover which, in image `b`. -/
abbrev cov (b : Fin 4) : ℕ → ℕ → Prop := covers (x1 b) (x2 b) (x3 b) (x4 b)

/-- The first guess holds the greedy answer so far: no kept box of an earlier tile covers the row. -/
def GuessOk (g : FVec Ideal S4x128x1 .f32) : Prop :=
  ∀ b r, g (ix3 b r 0) = bit (∀ j < 128 * t, cov x1 x2 x3 x4 b (128 * t + r.val) j → ¬stays (cov x1 x2 x3 x4 b) j)

/-- Within the tile: earlier rows that cover later ones. -/
def LocalOk (s : FVec Ideal S4x128x128 .f32) : Prop :=
  ∀ (b : Fin 4) (r j : Fin 128), s (ix3 b r j) = bit (cov x1 x2 x3 x4 b (128 * t + r.val) (128 * t + j.val) ∧ j < r)

/-- The first `m` rows hold the greedy keep bits, and every row a zero or a one. -/
def Upto (m : ℕ) (k : FVec Ideal S4x128x1 .f32) : Prop :=
  (∀ b r, k (ix3 b r 0) = 0 ∨ k (ix3 b r 0) = 1)
    ∧ ∀ b (r : Fin 128), r.val < m → k (ix3 b r 0) = bit (stays (cov x1 x2 x3 x4 b) (128 * t + r.val))

variable {x1 x2 x3 x4 t} {s : FVec Ideal S4x128x128 .f32} {g : FVec Ideal S4x128x1 .f32}

theorem trip_eq (hs : LocalOk x1 x2 x3 x4 t s) {k : FVec Ideal S4x128x1 .f32} (hk : ∀ b r, k (ix3 b r 0) = 0 ∨ k (ix3 b r 0) = 1)
    (b : Fin 4) (r : Fin 128) :
    k0_pay2 (F := Ideal) s g k (ix3 b r 0)
      = if ∃ j : Fin 128, j < r ∧ cov x1 x2 x3 x4 b (128 * t + r.val) (128 * t + j.val) ∧ k (ix3 b j 0) = 1 then 0 else g (ix3 b r 0) := by
  have h : ∀ j : Fin 128, s (ix3 b r j) * k (ix3 b j 0) = 0 ∨ s (ix3 b r j) * k (ix3 b j 0) = 1 := fun j => by
    rw [hs b r j]
    rcases bit_cases (cov x1 x2 x3 x4 b (128 * t + r.val) (128 * t + j.val) ∧ j < r) with e | e <;> rw [e] <;>
      rcases hk b j with e' | e' <;> rw [e'] <;> simp
  rw [trip_apply]
  refine if_congr ((half_lt_sum _ h).trans (exists_congr fun j => ?_)) rfl rfl
  rw [hs b r j]
  constructor
  · intro hp
    rcases bit_cases (cov x1 x2 x3 x4 b (128 * t + r.val) (128 * t + j.val) ∧ j < r) with e | e
    · rw [e, zero_mul] at hp; exact absurd hp zero_ne_one
    · rw [e, one_mul] at hp
      exact ⟨((bit_eq_one _).mp e).2, ((bit_eq_one _).mp e).1, hp⟩
  · rintro ⟨h1, h2, h3⟩
    rw [(bit_eq_one _).mpr ⟨h2, h1⟩, h3, one_mul]

/-- A trip makes one more row right. -/
theorem Upto.trip (hg : GuessOk x1 x2 x3 x4 t g) (hs : LocalOk x1 x2 x3 x4 t s) {m : ℕ} {k : FVec Ideal S4x128x1 .f32}
    (h : Upto x1 x2 x3 x4 t m k) : Upto x1 x2 x3 x4 t (m + 1) (k0_pay2 s g k) := by
  refine ⟨fun b r => ?_, fun b r hr => ?_⟩
  · rw [trip_eq hs h.1]
    split
    · exact Or.inl rfl
    · rw [hg b r]; exact bit_cases _
  · rw [trip_eq hs h.1, hg b r]
    have hk : ∀ j : Fin 128, j < r → (k (ix3 b j 0) = 1 ↔ stays (cov x1 x2 x3 x4 b) (128 * t + j.val)) := fun j hj => by
      rw [h.2 b j (lt_of_lt_of_le hj (Nat.le_of_lt_succ hr))]; exact bit_eq_one _
    have hkept := stays_iff (cov x1 x2 x3 x4 b) (128 * t + r.val)
    split
    · rename_i hex
      obtain ⟨j, hj, hc, h1⟩ := hex
      have hn : ¬stays (cov x1 x2 x3 x4 b) (128 * t + r.val) := fun hp =>
        hkept.mp hp (128 * t + j.val) (by have : j.val < r.val := hj; omega) hc ((hk j hj).mp h1)
      unfold bit; rw [if_neg hn]
    · rename_i hex
      congr 1
      refine propext ⟨fun hp => hkept.mpr fun j hj hc hkj => ?_, fun hp j hj => hkept.mp hp j (by omega)⟩
      by_cases hjt : j < 128 * t
      · exact hp j hjt hc hkj
      · have hlt : j - 128 * t < 128 := by have := r.isLt; omega
        have e : 128 * t + (j - 128 * t) = j := by omega
        have hjr : (⟨j - 128 * t, hlt⟩ : Fin 128) < r := by rw [Fin.lt_def]; show j - 128 * t < r.val; omega
        exact hex ⟨⟨j - 128 * t, hlt⟩, hjr, by show cov x1 x2 x3 x4 b _ (128 * t + (j - 128 * t)); rw [e]; exact hc,
          (hk _ hjr).mpr (by show stays _ (128 * t + (j - 128 * t)); rw [e]; exact hkj)⟩

/-- Bits a trip leaves as they are, are right. -/
theorem Upto.of_fixed (hg : GuessOk x1 x2 x3 x4 t g) (hs : LocalOk x1 x2 x3 x4 t s) {m : ℕ} {k : FVec Ideal S4x128x1 .f32}
    (h : Upto x1 x2 x3 x4 t m k) (hf : k0_pay2 s g k = k) : Upto x1 x2 x3 x4 t 128 k := by
  have : ∀ n, Upto x1 x2 x3 x4 t n k := fun n => by
    induction n with
    | zero => exact ⟨h.1, fun b r hr => absurd hr (Nat.not_lt_zero _)⟩
    | succ n ih => have := ih.trip hg hs; rwa [hf] at this
  exact this 128

theorem loop_right (hg : GuessOk x1 x2 x3 x4 t g) (hs : LocalOk x1 x2 x3 x4 t s) :
    ∀ (n : ℕ) (k : FVec Ideal S4x128x1 .f32) (ch : BitVec 1), n ≤ 128 → Upto x1 x2 x3 x4 t (128 - n) k
      → (ch ≠ 1#1 → k0_pay2 s g k = k) → Upto x1 x2 x3 x4 t 128 (loopRes (F := Ideal) s g n k ch)
  | 0, k, ch, _, h, _ => h
  | n + 1, k, ch, hn, h, hc => by
    rw [loopRes]
    split
    · have h' := h.trip hg hs
      rw [show 128 - (n + 1) + 1 = 128 - n by omega] at h'
      refine loop_right hg hs n _ _ (by omega) h' fun hne => ?_
      rw [unchanged s g k hne]
      exact unchanged s g k hne
    · rename_i hne
      exact h.of_fixed hg hs (hc hne)

/-- THE TILE: the greedy keep bits of its rows. -/
theorem tileKeep_right (c1 c2 c3 c4 : FVec Ideal S4x1x2048 .f32) (r1 r2 r3 r4 : FVec Ideal S4x128x1 .f32)
    (t1 t2 t3 t4 : FVec Ideal S4x1x1x128 .f32) (scr : FVec Ideal S4x2048x1 .f32) (ht : 128 * t ≤ 2048)
    (hc : ∀ b (j : Fin 2048), c1 (ix3 b 0 j) = x1 b j ∧ c2 (ix3 b 0 j) = x2 b j ∧ c3 (ix3 b 0 j) = x3 b j ∧ c4 (ix3 b 0 j) = x4 b j)
    (hr : ∀ b (r : Fin 128), r1 (ix3 b r 0) = x1 b (128 * t + r) ∧ r2 (ix3 b r 0) = x2 b (128 * t + r) ∧ r3 (ix3 b r 0) = x3 b (128 * t + r) ∧ r4 (ix3 b r 0) = x4 b (128 * t + r))
    (htl : ∀ b (r : Fin 128), t1 (ix4 b 0 0 r) = x1 b (128 * t + r) ∧ t2 (ix4 b 0 0 r) = x2 b (128 * t + r) ∧ t3 (ix4 b 0 0 r) = x3 b (128 * t + r) ∧ t4 (ix4 b 0 0 r) = x4 b (128 * t + r))
    (hscr : ∀ b (j : Fin 2048), scr (ix3 b j 0) = bit (j.val < 128 * t ∧ stays (cov x1 x2 x3 x4 b) j)) (b : Fin 4) (r : Fin 128) :
    tileKeep (F := Ideal) c1 c2 c3 c4 r1 r2 r3 r4 t1 t2 t3 t4 scr (ix3 b r 0) = bit (stays (cov x1 x2 x3 x4 b) (128 * t + r.val)) := by
  have hs : LocalOk x1 x2 x3 x4 t (tileS r1 r2 r3 r4 t1 t2 t3 t4) := fun b r j => by
    obtain ⟨a1, a2, a3, a4⟩ := hr b r
    obtain ⟨b1, b2, b3, b4⟩ := htl b j
    rw [tileS_apply, a1, a2, a3, a4, b1, b2, b3, b4]
    unfold bit
    congr
  have hg : GuessOk x1 x2 x3 x4 t (tileB c1 c2 c3 c4 r1 r2 r3 r4 scr) := fun b r => by
    obtain ⟨a1, a2, a3, a4⟩ := hr b r
    have hS : ∀ j : Fin 2048, Scalar.select (k0_pay21 (F := Ideal) (k0_pay5 c1) (k0_pay6 c2) (k0_pay7 c3) (k0_pay8 c4) (k0_pay9 r1) (k0_pay10 r2) (k0_pay11 r3) (k0_pay12 r4) (ix3 b r j)) (scr (ix3 b j 0)) 0
        = bit (cov x1 x2 x3 x4 b (128 * t + r.val) j ∧ j.val < 128 * t ∧ stays (cov x1 x2 x3 x4 b) j) := fun j => by
      obtain ⟨b1, b2, b3, b4⟩ := hc b j
      rw [cross_apply, a1, a2, a3, a4, b1, b2, b3, b4, hscr]
      by_cases h : cov x1 x2 x3 x4 b (128 * t + r.val) j <;> have h' := h <;> unfold cov covers at h' <;>
        simp [h, h', Scalar.select, bit]
    rw [tileB, guess_apply]
    simp only [hS]
    unfold bit
    by_cases h : ∃ j : Fin 2048, bit (cov x1 x2 x3 x4 b (128 * t + r.val) j ∧ j.val < 128 * t ∧ stays (cov x1 x2 x3 x4 b) j) = 1
    · have h' := (half_lt_sum _ fun j : Fin 2048 => bit_cases (cov x1 x2 x3 x4 b (128 * t + r.val) j ∧ j.val < 128 * t ∧ stays (cov x1 x2 x3 x4 b) j)).mpr h
      unfold bit at h'
      rw [if_pos h', if_neg]
      obtain ⟨j, hj⟩ := h
      obtain ⟨h1, h2, h3⟩ := (bit_eq_one _).mp hj
      exact fun hall => hall j h2 h1 h3
    · have h' := fun hl => h ((half_lt_sum _ fun j : Fin 2048 => bit_cases (cov x1 x2 x3 x4 b (128 * t + r.val) j ∧ j.val < 128 * t ∧ stays (cov x1 x2 x3 x4 b) j)).mp hl)
      unfold bit at h'
      rw [if_neg h', if_pos]
      exact fun j hj hcv hk => h ⟨⟨j, by omega⟩, (bit_eq_one _).mpr ⟨hcv, hj, hk⟩⟩
  refine (loop_right hg hs 128 _ _ le_rfl ⟨fun b r => ?_, fun b r hlt => absurd hlt (by omega)⟩ fun hne => absurd rfl hne).2 b r r.isLt
  rw [hg b r]; exact bit_cases _

end tile

end Cert.Proof.KI

end
-- ==== Proof.ScrIdeal.lean ====
/-
  The kernel over all its grid points, at the extended reals: the scratch buffer holds the greedy keep bits of the
  tiles before the point, and the array it leaves holds those of every box.
-/
module

public import proofs.«01_k».proof.Proof.MainIdeal
public import proofs.«01_k».proof.Proof.TileIdeal
public import Idealize.ShloMosaic.Lib.Pipeline.ValueKit.Geometry

@[expose] public section

noncomputable section

namespace Cert.Proof.KI

open Cert.KernelIdeal Cert.KernelIdeal.Gen
open Idealize.ShloMosaic
open Idealize.ShloMosaic.TcCoe
open scoped Classical

theorem idx_col : ∀ t : Fin (cfg0 (F := Ideal)).N, win0_0.index t = ![0, 0, 0] ∧ win0_1.index t = ![0, 0, 0] ∧ win0_2.index t = ![0, 0, 0] ∧ win0_3.index t = ![0, 0, 0] :=
  (by decide +kernel : ∀ t : Fin grid0.N, _)
theorem idx_row : ∀ t : Fin (cfg0 (F := Ideal)).N, win0_4.index t = ![0, t.val, 0] ∧ win0_5.index t = ![0, t.val, 0] ∧ win0_6.index t = ![0, t.val, 0] ∧ win0_7.index t = ![0, t.val, 0] :=
  (by decide +kernel : ∀ t : Fin grid0.N, _)
theorem idx_tile : ∀ t : Fin (cfg0 (F := Ideal)).N, win0_8.index t = ![0, t.val, 0, 0] ∧ win0_9.index t = ![0, t.val, 0, 0] ∧ win0_10.index t = ![0, t.val, 0, 0] ∧ win0_11.index t = ![0, t.val, 0, 0] :=
  (by decide +kernel : ∀ t : Fin grid0.N, _)
theorem idx_out : ∀ t : Fin (cfg0 (F := Ideal)).N, win0_12.index t = ![0, t.val, 0] :=
  (by decide +kernel : ∀ t : Fin grid0.N, _)

variable (V : Valuation τ sig (Elt Ideal))

theorem blk_0 (t : Fin (cfg0 (F := Ideal)).N) (b : Fin 4) (j : Fin 2048) :
    (blkIn V 0 t : FVec Ideal S4x1x2048 .f32) (ix3 b 0 j) = (V (Proc.devRef .tc main_v29) : FVec Ideal S4x1x2048 .f32) (ix3 b 0 j) := by
  have e := (idx_col t).1
  unfold blkIn
  blk_simp
  refine congrArg (V (Proc.devRef .tc main_v29)) ?_
  blk_ext [e]
theorem blk_1 (t : Fin (cfg0 (F := Ideal)).N) (b : Fin 4) (j : Fin 2048) :
    (blkIn V 1 t : FVec Ideal S4x1x2048 .f32) (ix3 b 0 j) = (V (Proc.devRef .tc main_v30) : FVec Ideal S4x1x2048 .f32) (ix3 b 0 j) := by
  have e := (idx_col t).2.1
  unfold blkIn
  blk_simp
  refine congrArg (V (Proc.devRef .tc main_v30)) ?_
  blk_ext [e]
theorem blk_2 (t : Fin (cfg0 (F := Ideal)).N) (b : Fin 4) (j : Fin 2048) :
    (blkIn V 2 t : FVec Ideal S4x1x2048 .f32) (ix3 b 0 j) = (V (Proc.devRef .tc main_v31) : FVec Ideal S4x1x2048 .f32) (ix3 b 0 j) := by
  have e := (idx_col t).2.2.1
  unfold blkIn
  blk_simp
  refine congrArg (V (Proc.devRef .tc main_v31)) ?_
  blk_ext [e]
theorem blk_3 (t : Fin (cfg0 (F := Ideal)).N) (b : Fin 4) (j : Fin 2048) :
    (blkIn V 3 t : FVec Ideal S4x1x2048 .f32) (ix3 b 0 j) = (V (Proc.devRef .tc main_v32) : FVec Ideal S4x1x2048 .f32) (ix3 b 0 j) := by
  have e := (idx_col t).2.2.2
  unfold blkIn
  blk_simp
  refine congrArg (V (Proc.devRef .tc main_v32)) ?_
  blk_ext [e]
theorem blk_4 (t : Fin (cfg0 (F := Ideal)).N) (b : Fin 4) (r : Fin 128) (h : 128 * t.val + r.val < 2048) :
    (blkIn V 4 t : FVec Ideal S4x128x1 .f32) (ix3 b r 0)
      = (V (Proc.devRef .tc main_v33) : FVec Ideal S4x2048x1 .f32) (ix3 b ⟨128 * t.val + r.val, h⟩ 0) := by
  have e := (idx_row t).1
  unfold blkIn
  blk_simp
  refine congrArg (V (Proc.devRef .tc main_v33)) ?_
  blk_ext [e]
theorem blk_5 (t : Fin (cfg0 (F := Ideal)).N) (b : Fin 4) (r : Fin 128) (h : 128 * t.val + r.val < 2048) :
    (blkIn V 5 t : FVec Ideal S4x128x1 .f32) (ix3 b r 0)
      = (V (Proc.devRef .tc main_v34) : FVec Ideal S4x2048x1 .f32) (ix3 b ⟨128 * t.val + r.val, h⟩ 0) := by
  have e := (idx_row t).2.1
  unfold blkIn
  blk_simp
  refine congrArg (V (Proc.devRef .tc main_v34)) ?_
  blk_ext [e]
theorem blk_6 (t : Fin (cfg0 (F := Ideal)).N) (b : Fin 4) (r : Fin 128) (h : 128 * t.val + r.val < 2048) :
    (blkIn V 6 t : FVec Ideal S4x128x1 .f32) (ix3 b r 0)
      = (V (Proc.devRef .tc main_v35) : FVec Ideal S4x2048x1 .f32) (ix3 b ⟨128 * t.val + r.val, h⟩ 0) := by
  have e := (idx_row t).2.2.1
  unfold blkIn
  blk_simp
  refine congrArg (V (Proc.devRef .tc main_v35)) ?_
  blk_ext [e]
theorem blk_7 (t : Fin (cfg0 (F := Ideal)).N) (b : Fin 4) (r : Fin 128) (h : 128 * t.val + r.val < 2048) :
    (blkIn V 7 t : FVec Ideal S4x128x1 .f32) (ix3 b r 0)
      = (V (Proc.devRef .tc main_v36) : FVec Ideal S4x2048x1 .f32) (ix3 b ⟨128 * t.val + r.val, h⟩ 0) := by
  have e := (idx_row t).2.2.2
  unfold blkIn
  blk_simp
  refine congrArg (V (Proc.devRef .tc main_v36)) ?_
  blk_ext [e]
theorem blk_8 (t : Fin (cfg0 (F := Ideal)).N) (b : Fin 4) (r : Fin 128) (h : t.val < 16) :
    (blkIn V 8 t : FVec Ideal S4x1x1x128 .f32) (ix4 b 0 0 r) = (V (Proc.devRef .tc main_v37) : FVec Ideal S4x16x1x128 .f32) (ix4 b ⟨t.val, h⟩ 0 r) := by
  have e := (idx_tile t).1
  unfold blkIn
  blk_simp
  refine congrArg (V (Proc.devRef .tc main_v37)) ?_
  blk_ext [e]
theorem blk_9 (t : Fin (cfg0 (F := Ideal)).N) (b : Fin 4) (r : Fin 128) (h : t.val < 16) :
    (blkIn V 9 t : FVec Ideal S4x1x1x128 .f32) (ix4 b 0 0 r) = (V (Proc.devRef .tc main_v38) : FVec Ideal S4x16x1x128 .f32) (ix4 b ⟨t.val, h⟩ 0 r) := by
  have e := (idx_tile t).2.1
  unfold blkIn
  blk_simp
  refine congrArg (V (Proc.devRef .tc main_v38)) ?_
  blk_ext [e]
theorem blk_10 (t : Fin (cfg0 (F := Ideal)).N) (b : Fin 4) (r : Fin 128) (h : t.val < 16) :
    (blkIn V 10 t : FVec Ideal S4x1x1x128 .f32) (ix4 b 0 0 r) = (V (Proc.devRef .tc main_v39) : FVec Ideal S4x16x1x128 .f32) (ix4 b ⟨t.val, h⟩ 0 r) := by
  have e := (idx_tile t).2.2.1
  unfold blkIn
  blk_simp
  refine congrArg (V (Proc.devRef .tc main_v39)) ?_
  blk_ext [e]
theorem blk_11 (t : Fin (cfg0 (F := Ideal)).N) (b : Fin 4) (r : Fin 128) (h : t.val < 16) :
    (blkIn V 11 t : FVec Ideal S4x1x1x128 .f32) (ix4 b 0 0 r) = (V (Proc.devRef .tc main_v40) : FVec Ideal S4x16x1x128 .f32) (ix4 b ⟨t.val, h⟩ 0 r) := by
  have e := (idx_tile t).2.2.2
  unfold blkIn
  blk_simp
  refine congrArg (V (Proc.devRef .tc main_v40)) ?_
  blk_ext [e]

theorem off1 : ∀ t : Fin grid0.N, k0_off1 (grid0.coords t) = ![0, 128 * t.val, 0] := by decide +kernel

/-- The scratch buffer after a point: the tile's rows replaced, the others as they were. -/
theorem scrOut_in (t : Fin grid0.N) (f : FVec Ideal S4x2048x1 .f32) (k : FVec Ideal S4x128x1 .f32) (b : Fin 4) (j : Fin 2048) (r : Fin 128)
    (h : j.val = 128 * t.val + r.val) : scrOut (F := Ideal) (grid0.coords t) f k (ix3 b j 0) = k (ix3 b r 0) := by
  refine (View.read_writes_cons_unit_of_mem (Val := Elt Ideal) (Memref.whole cc0_scratch0).view f (k0_off1_inb (grid0.coords t)) (k0_pay1 k) [] (ix3 b j 0) (ix3 b r 0)
    (off1 t) fun a => ?_).trans ?_
  · match a with
    | 0 => exact (Nat.zero_add _).symm
    | 1 => exact h
    | 2 => rfl
  · unfold k0_pay1
    rw [shapeCast_self]

theorem scrOut_out (t : Fin grid0.N) (f : FVec Ideal S4x2048x1 .f32) (k : FVec Ideal S4x128x1 .f32) (b : Fin 4) (j : Fin 2048)
    (h : j.val < 128 * t.val ∨ 128 * t.val + 128 ≤ j.val) : scrOut (F := Ideal) (grid0.coords t) f k (ix3 b j 0) = f (ix3 b j 0) :=
  View.read_writes_cons_unit_of_not_mem (Val := Elt Ideal) (Memref.whole cc0_scratch0).view f (k0_off1_inb (grid0.coords t)) (k0_pay1 k) [] (ix3 b j 0)
    (off1 t) 1 h

/-- The arrays the kernel's windows read hold four rows of coordinates, in its three layouts. -/
structure Boxes (x1 x2 x3 x4 : Fin 4 → ℕ → EReal) : Prop where
  c1 : ∀ (b : Fin 4) (j : Fin 2048), (V (Proc.devRef .tc main_v29) : FVec Ideal S4x1x2048 .f32) (ix3 b 0 j) = x1 b j
  c2 : ∀ (b : Fin 4) (j : Fin 2048), (V (Proc.devRef .tc main_v30) : FVec Ideal S4x1x2048 .f32) (ix3 b 0 j) = x2 b j
  c3 : ∀ (b : Fin 4) (j : Fin 2048), (V (Proc.devRef .tc main_v31) : FVec Ideal S4x1x2048 .f32) (ix3 b 0 j) = x3 b j
  c4 : ∀ (b : Fin 4) (j : Fin 2048), (V (Proc.devRef .tc main_v32) : FVec Ideal S4x1x2048 .f32) (ix3 b 0 j) = x4 b j
  r1 : ∀ (b : Fin 4) (j : Fin 2048), (V (Proc.devRef .tc main_v33) : FVec Ideal S4x2048x1 .f32) (ix3 b j 0) = x1 b j
  r2 : ∀ (b : Fin 4) (j : Fin 2048), (V (Proc.devRef .tc main_v34) : FVec Ideal S4x2048x1 .f32) (ix3 b j 0) = x2 b j
  r3 : ∀ (b : Fin 4) (j : Fin 2048), (V (Proc.devRef .tc main_v35) : FVec Ideal S4x2048x1 .f32) (ix3 b j 0) = x3 b j
  r4 : ∀ (b : Fin 4) (j : Fin 2048), (V (Proc.devRef .tc main_v36) : FVec Ideal S4x2048x1 .f32) (ix3 b j 0) = x4 b j
  t1 : ∀ (b : Fin 4) (t : Fin 16) (r : Fin 128), (V (Proc.devRef .tc main_v37) : FVec Ideal S4x16x1x128 .f32) (ix4 b t 0 r) = x1 b (128 * t + r)
  t2 : ∀ (b : Fin 4) (t : Fin 16) (r : Fin 128), (V (Proc.devRef .tc main_v38) : FVec Ideal S4x16x1x128 .f32) (ix4 b t 0 r) = x2 b (128 * t + r)
  t3 : ∀ (b : Fin 4) (t : Fin 16) (r : Fin 128), (V (Proc.devRef .tc main_v39) : FVec Ideal S4x16x1x128 .f32) (ix4 b t 0 r) = x3 b (128 * t + r)
  t4 : ∀ (b : Fin 4) (t : Fin 16) (r : Fin 128), (V (Proc.devRef .tc main_v40) : FVec Ideal S4x16x1x128 .f32) (ix4 b t 0 r) = x4 b (128 * t + r)

variable {V} {x1 x2 x3 x4 : Fin 4 → ℕ → EReal}

theorem points : (cfg0 (F := Ideal)).N = 16 := by decide +kernel

theorem keepAt_right (hV : Boxes V x1 x2 x3 x4) (t : Fin (cfg0 (F := Ideal)).N) (g : FVec Ideal S4x2048x1 .f32)
    (hg : ∀ b (j : Fin 2048), g (ix3 b j 0) = bit (j.val < 128 * t.val ∧ stays (cov x1 x2 x3 x4 b) j)) (b : Fin 4) (r : Fin 128) :
    keepAt V t g (ix3 b r 0) = bit (stays (cov x1 x2 x3 x4 b) (128 * t.val + r.val)) := by
  have h16 : t.val < 16 := lt_of_lt_of_eq t.isLt points
  have hr : ∀ r : Fin 128, 128 * t.val + r.val < 2048 := fun r => by have := r.isLt; omega
  unfold keepAt
  refine tileKeep_right _ _ _ _ _ _ _ _ _ _ _ _ g (by omega) (fun b j => ⟨?_, ?_, ?_, ?_⟩) (fun b r => ⟨?_, ?_, ?_, ?_⟩) (fun b r => ⟨?_, ?_, ?_, ?_⟩) hg b r
  · exact (blk_0 V t b j).trans (hV.c1 b j)
  · exact (blk_1 V t b j).trans (hV.c2 b j)
  · exact (blk_2 V t b j).trans (hV.c3 b j)
  · exact (blk_3 V t b j).trans (hV.c4 b j)
  · exact (blk_4 V t b r (hr r)).trans (hV.r1 b _)
  · exact (blk_5 V t b r (hr r)).trans (hV.r2 b _)
  · exact (blk_6 V t b r (hr r)).trans (hV.r3 b _)
  · exact (blk_7 V t b r (hr r)).trans (hV.r4 b _)
  · exact (blk_8 V t b r h16).trans (hV.t1 b _ r)
  · exact (blk_9 V t b r h16).trans (hV.t2 b _ r)
  · exact (blk_10 V t b r h16).trans (hV.t3 b _ r)
  · exact (blk_11 V t b r h16).trans (hV.t4 b _ r)

/-- The scratch buffer before point `n`: the keep bits of the boxes before it, zero elsewhere. -/
theorem scrAt_right (hV : Boxes V x1 x2 x3 x4) : ∀ (n : ℕ), n ≤ (cfg0 (F := Ideal)).N → ∀ b (j : Fin 2048),
    scrAt V n (ix3 b j 0) = bit (j.val < 128 * n ∧ stays (cov x1 x2 x3 x4 b) j)
  | 0, _, b, j => by
    unfold bit
    rw [if_neg (by omega)]
    show k0_pay4 (F := Ideal) (ix3 b j 0) = 0
    pointwise [k0_pay4]
  | n + 1, hn, b, j => by
    have ih := scrAt_right hV n (by omega)
    rw [scrAt_succ V ⟨n, hn⟩]
    by_cases hin : 128 * n ≤ j.val ∧ j.val < 128 * n + 128
    · rw [scrOut_in ⟨n, hn⟩ _ _ b j ⟨j.val - 128 * n, by omega⟩ (by show j.val = 128 * n + (j.val - 128 * n); omega), keepAt_right hV ⟨n, hn⟩ _ ih]
      show bit (stays _ (128 * n + (j.val - 128 * n))) = _
      rw [show 128 * n + (j.val - 128 * n) = j.val by omega]
      congr 1
      exact propext ⟨fun h => ⟨by omega, h⟩, fun h => h.2⟩
    · rw [scrOut_out ⟨n, hn⟩ _ _ b j (by show j.val < 128 * n ∨ 128 * n + 128 ≤ j.val; omega), ih]
      congr 1
      exact propext ⟨fun h => ⟨by omega, h.2⟩, fun h => ⟨by omega, h.2⟩⟩

variable (m : (ℓ : Loc nD τ sig) → Buf (Elt Ideal) ℓ)

/-- THE KERNEL'S ARRAY: the greedy keep bits of every box. -/
theorem keep_array (c : Dev nD) (hV : Boxes (V₀ m c) x1 x2 x3 x4) :
    (dats m 0 c).arrAt 12 (cfg0 (F := Ideal)).N = (fun i => bit (stays (cov x1 x2 x3 x4 (i 0)) (i 1).val) : FVec Ideal S4x2048x1 .f32) := by
  refine (dats m 0 c).arrAt_eq_of_covers 12 _ (by decide +kernel) fun t hf y => ?_
  have e := idx_out t
  blk_simp
  rw [after_12]
  obtain ⟨b, r, rfl⟩ : ∃ (b : Fin 4) (r : Fin 128), y = ix3 b r 0 := ⟨y 0, y 1, eq_ix3_unit y⟩
  refine (keepAt_right hV t _ (scrAt_right hV t.val t.isLt.le) b r).trans ?_
  have h0 : ((win0_12.blk t).view.emb (ix3 b r 0)) 0 = b := Fin.ext (by blk_simp [e])
  rw [h0, e, Nat.mul_comm]
  rfl

end Cert.Proof.KI

end
-- ==== Proof.Arrays.lean ====
/-
  Both programs' tables of boxes, index by index.
-/
module

public import proofs.«01_k».proof.Proof.LoopIdeal
public import proofs.«01_k».proof.Proof.HostIdeal
public import proofs.«01_k».proof.Proof.ScrIdeal

@[expose] public section

set_option synthInstance.maxSize 4096
set_option synthInstance.maxHeartbeats 400000

noncomputable section

namespace Cert.Proof

open Idealize.ShloMosaic

/-- A row of 2000 numbers, zero beyond. -/
def onLine (a : FVec Ideal Cert.KernelIdeal.S4x2000 .f32) (b : Fin 4) (j : ℕ) : EReal :=
  if h : j < 2000 then a (ix2 b ⟨j, h⟩) else 0

theorem onLine_at (a : FVec Ideal Cert.KernelIdeal.S4x2000 .f32) (b : Fin 4) (j : Fin 2000) : onLine a b j.val = a (ix2 b j) :=
  dif_pos j.isLt

theorem padded_at (a : FVec Ideal Cert.KernelIdeal.S4x2000 .f32) (b : Fin 4) (j : Fin 2048) : padded a (ix2 b j) = onLine a b j.val := by
  unfold padded onLine
  by_cases h : j.val < 2000
  · rw [dif_pos h]
    pointwise
    exact dif_pos h
  · rw [dif_neg h]
    pointwise
    rw [dif_neg h]
    show ((((0#32 : BitVec 32).toInt : ℤ) : ℝ) : EReal) = 0
    norm_num

theorem tile_at (a : FVec Ideal Cert.KernelIdeal.S4x2000 .f32) (b : Fin 4) (t : Fin 16) (r : Fin 128) :
    shapeCast Cert.KernelIdeal.S4x16x1x128 (padded a) Cert.KernelIdeal.Gen.shapeCasts_S4x2048_S4x16x1x128 (ix4 b t 0 r) = onLine a b (128 * t.val + r.val) := by
  rw [← padded_at a b ⟨128 * t.val + r.val, by omega⟩]
  pointwise
  exact congrArg (fun k => padded a (ix2 b k)) (Fin.ext (by show t.val * 128 + r.val = 128 * t.val + r.val; omega))

theorem iou_at (a1 a2 a3 a4 : FVec Ideal Cert.KernelIdeal.S4x2000 .f32) (b : Fin 4) (i j : Fin 2000) :
    covers (onLine a1 b) (onLine a2 b) (onLine a3 b) (onLine a4 b) i.val j.val
      ↔ Ideal.ofBits .f32 0x3F333333#32 < RI.ious a1 a2 a3 a4 (ix3 b i j) := by
  unfold covers
  simp only [onLine_at]
  unfold RI.ious
  pointwise
  rfl

theorem keptBits_at (p : Fin 4 → ℕ → Prop) (b : Fin 4) (j : Fin 2000) :
    keptBits (fun i => KI.bit (p (i 0) (i 1).val)) (ix2 b j) = 1#1 ↔ p b j.val := by
  unfold keptBits
  pointwise
  rw [RI.ofBool_one, decide_eq_true_iff]
  unfold KI.bit
  by_cases h : p b j.val
  · rw [if_pos h]; exact ⟨fun _ => h, fun _ => half_lt_one⟩
  · rw [if_neg h]; exact ⟨fun g => absurd g (not_lt.mpr half_pos.le), fun g => absurd g h⟩

/-- The kernel's tables hold the padded columns. -/
theorem boxes_of (V : Valuation Cert.KernelIdeal.τ Cert.KernelIdeal.sig (Elt Ideal)) :
    KI.Boxes (KI.E V) (onLine (KI.E V (Proc.devRef .tc Cert.KernelIdeal.main_v9))) (onLine (KI.E V (Proc.devRef .tc Cert.KernelIdeal.main_v12)))
      (onLine (KI.E V (Proc.devRef .tc Cert.KernelIdeal.main_v15))) (onLine (KI.E V (Proc.devRef .tc Cert.KernelIdeal.main_v18))) where
  c1 b j := by rw [KI.E_v29, KI.E_v25, ← padded_at]; pointwise
  c2 b j := by rw [KI.E_v30, KI.E_v26, ← padded_at]; pointwise
  c3 b j := by rw [KI.E_v31, KI.E_v27, ← padded_at]; pointwise
  c4 b j := by rw [KI.E_v32, KI.E_v28, ← padded_at]; pointwise
  r1 b j := by rw [KI.E_v33, KI.E_v25, ← padded_at]; pointwise
  r2 b j := by rw [KI.E_v34, KI.E_v26, ← padded_at]; pointwise
  r3 b j := by rw [KI.E_v35, KI.E_v27, ← padded_at]; pointwise
  r4 b j := by rw [KI.E_v36, KI.E_v28, ← padded_at]; pointwise
  t1 b t r := by rw [KI.E_v37, KI.E_v25, tile_at]
  t2 b t r := by rw [KI.E_v38, KI.E_v26, tile_at]
  t3 b t r := by rw [KI.E_v39, KI.E_v27, tile_at]
  t4 b t r := by rw [KI.E_v40, KI.E_v28, tile_at]

end Cert.Proof

end
-- ==== Proof.Ends.lean ====
/-
  What each program leaves in its result, from the columns of boxes and the scores it starts its loop with.
-/
module

public import proofs.«01_k».proof.Proof.Arrays

@[expose] public section

set_option synthInstance.maxSize 4096
set_option synthInstance.maxHeartbeats 400000

noncomputable section

namespace Cert.Proof

open Idealize.ShloMosaic

/-- The marks that tell which boxes stay. -/
def MarksOf (a1 a2 a3 a4 : FVec Ideal Cert.KernelIdeal.S4x2000 .f32) (k : IVec Cert.KernelIdeal.S4x2000 1) : Prop :=
  ∀ (b : Fin 4) (j : Fin 2000), k (ix2 b j) = 1#1 ↔ stays (covers (onLine a1 b) (onLine a2 b) (onLine a3 b) (onLine a4 b)) j.val

theorem MarksOf.unique {a1 a2 a3 a4 : FVec Ideal Cert.KernelIdeal.S4x2000 .f32} {k k' : IVec Cert.KernelIdeal.S4x2000 1}
    (h : MarksOf a1 a2 a3 a4 k) (h' : MarksOf a1 a2 a3 a4 k') : k = k' := by
  funext i
  obtain ⟨b, j, rfl⟩ : ∃ (b : Fin 4) (j : Fin 2000), i = ix2 b j := ⟨i 0, i 1, by funext a; fin_cases a <;> rfl⟩
  have e := (h b j).trans (h' b j).symm
  rcases BitVec.eq_zero_or_eq_one (k (ix2 b j)) with g | g <;> rcases BitVec.eq_zero_or_eq_one (k' (ix2 b j)) with g' | g' <;> rw [g, g'] at e ⊢
  · exact absurd (e.2 rfl) (by decide)
  · exact absurd (e.1 rfl) (by decide)

namespace KI

open Cert.KernelIdeal Cert.KernelIdeal.Gen

variable (m : (ℓ : Loc nD τ sig) → Buf (Elt Ideal) ℓ)

/-- The buffers on one device before the first line. -/
abbrev start (c : Dev nD) : Valuation τ sig (Elt Ideal) := fun b => m (c, b)

theorem result (c : Dev nD) :
    ∃ k, MarksOf (E (start m c) (Proc.devRef .tc main_v9)) (E (start m c) (Proc.devRef .tc main_v12)) (E (start m c) (Proc.devRef .tc main_v15)) (E (start m c) (Proc.devRef .tc main_v18)) k
      ∧ Pipeline.afterTail₀ (cfgs (F := Ideal)) (dats m) 0 (V₀ m) (post (F := Ideal)) c main_v55
        = answer (marked k (E (start m c) (Proc.devRef .tc main_v24)))
          (boxes (E (start m c) (Proc.devRef .tc main_v9)) (E (start m c) (Proc.devRef .tc main_v12)) (E (start m c) (Proc.devRef .tc main_v15)) (E (start m c) (Proc.devRef .tc main_v18))) := by
  have hk := keep_array m c (boxes_of (start m c))
  refine ⟨keptBits ((dats m 0 c).arrAt 12 (cfg0 (F := Ideal)).N), fun b j => ?_, ?_⟩
  · rw [hk]
    exact keptBits_at (fun b => stays (cov _ _ _ _ b)) b j
  · have h := P_end (Pipeline.withArrays spec0 c (V₀ m c) fun w => (dats m 0 c).arrAt w (cfg0 (F := Ideal)).N)
    rw [P_v46] at h
    refine Eq.trans ?_ (h.trans ?_)
    · rfl
    · have h41 : Pipeline.withArrays spec0 c (V₀ m c) (fun w => (dats m 0 c).arrAt w (cfg0 (F := Ideal)).N) (Proc.devRef .tc main_v41)
          = (dats m 0 c).arrAt 12 (cfg0 (F := Ideal)).N := Pipeline.withArrays_arr spec0 (by decide) c _ _ 12
      rw [h41, Pipeline.withArrays_of_ne spec0 c _ _ main_v24 (by decide),
        Pipeline.withArrays_of_ne spec0 c _ _ main_v9 (by decide), Pipeline.withArrays_of_ne spec0 c _ _ main_v12 (by decide),
        Pipeline.withArrays_of_ne spec0 c _ _ main_v15 (by decide), Pipeline.withArrays_of_ne spec0 c _ _ main_v18 (by decide)]
      rfl

end KI

namespace RI

open Cert.ReferenceIdeal Cert.ReferenceIdeal.Gen Cert.ReferenceIdeal.Value
open StableHlo

variable (m : (ℓ : Loc nD τ sig) → Buf (Elt Ideal) ℓ)

/-- The buffers on one device before the first line. -/
abbrev start (c : Dev nD) : Valuation τ sig (Elt Ideal) := fun b => m (c, b)

/-- The buffers before trip `k` of the loop. -/
abbrev at' (k : ℕ) (c : Dev nD) : Valuation τ sig (Elt Ideal) := atTrip condOps bodyI (entryContents preI m) k c

theorem at_zero (c : Dev nD) : at' m 0 c = E (start m c) := by
  show afterL preI _ = _
  rw [afterL_eq_after_flatten]

theorem at_succ (k : ℕ) (c : Dev nD) (b : Ref sig .tc) (hb : b ∈ carriedRefs) :
    at' m (k + 1) c (Proc.devRef .tc b) = STEP (at' m k c) (Proc.devRef .tc b) :=
  trip_agree (at' m k c) b hb

theorem at_table (c : Dev nD) : ∀ k, at' m k c (Proc.devRef .tc main_v77_0) = E (start m c) (Proc.devRef .tc main_v77_0)
  | 0 => by rw [at_zero]
  | k + 1 => by rw [at_succ m k c _ (by decide), STEP_main_v77_0, at_table c k]

theorem at_iota (c : Dev nD) : ∀ k, at' m k c (Proc.devRef .tc main_v77_1) = iotaInDim S2000 32 0
  | 0 => by rw [at_zero, E_v77_1]
  | k + 1 => by rw [at_succ m k c _ (by decide), STEP_main_v77_1, at_iota c k]

theorem at_count (c : Dev nD) : ∀ k, at' m k c (Proc.devRef .tc main_v77_3) = fun _ => BitVec.ofNat 32 k
  | 0 => by rw [at_zero, E_v77_3]; rfl
  | k + 1 => by
    rw [at_succ m k c _ (by decide), STEP_main_v77_3, step_main_v77_3, at_count c k]
    funext i
    show BitVec.ofNat 32 k + 1#32 = _
    rw [BitVec.ofNat_add]

theorem result (c : Dev nD) (h1 : ∀ i, (E (start m c) (Proc.devRef .tc main_v38) : IVec S4x2000 1) i = 1#1) :
    ∃ k, MarksOf (E (start m c) (Proc.devRef .tc main_v33)) (E (start m c) (Proc.devRef .tc main_v34)) (E (start m c) (Proc.devRef .tc main_v35)) (E (start m c) (Proc.devRef .tc main_v36)) k
      ∧ finalContents condOps preI bodyI postI 2000 m c (Proc.devRef .tc main_v87)
        = answer (marked k (E (start m c) (Proc.devRef .tc main_v37)))
          (boxes (E (start m c) (Proc.devRef .tc main_v33)) (E (start m c) (Proc.devRef .tc main_v34)) (E (start m c) (Proc.devRef .tc main_v35)) (E (start m c) (Proc.devRef .tc main_v36))) := by
  refine ⟨at' m 2000 c (Proc.devRef .tc main_v77_4), fun b j => ?_, ?_⟩
  · have h := marks_at (E (start m c) (Proc.devRef .tc main_v77_0)) (fun k => at' m k c (Proc.devRef .tc main_v77_4))
      (fun i => by rw [at_zero, E_v77_4]; exact h1 i)
      (fun k _ => by rw [at_succ m k c _ (by decide), STEP_main_v77_4, step_trip, at_table, at_iota, at_count]; rfl)
      (fun b => covers (onLine (E (start m c) (Proc.devRef .tc main_v33)) b) (onLine (E (start m c) (Proc.devRef .tc main_v34)) b)
        (onLine (E (start m c) (Proc.devRef .tc main_v35)) b) (onLine (E (start m c) (Proc.devRef .tc main_v36)) b))
      (fun b i j => by rw [E_v77_0]; exact iou_at _ _ _ _ b i j) 2000 le_rfl b j
    exact h.trans ⟨fun g => g j.isLt, fun g _ => g⟩
  · have hk (b : Ref sig .tc) (hc : b ∉ condOps_W) (hb : b ∉ while0Ops0_W) :
        after condOps (at' m 2000 c) (Proc.devRef .tc b) = E (start m c) (Proc.devRef .tc b) := by
      rw [after_of_writes_sub (W := condOps_W) condOps _ condOps_writes hc, ← at_zero]
      exact keep_trip (entryContents preI m) c b hc hb 2000
    rw [finalContents, afterL_eq_after_flatten]
    refine (P_end (after condOps (at' m 2000 c))).trans ?_
    rw [P_v78, hk main_v33 (by decide +kernel) (by decide +kernel), hk main_v34 (by decide +kernel) (by decide +kernel),
      hk main_v35 (by decide +kernel) (by decide +kernel), hk main_v36 (by decide +kernel) (by decide +kernel),
      hk main_v37 (by decide +kernel) (by decide +kernel), cond_keeps _ main_v77_4 (by decide)]

end RI

end Cert.Proof

end
-- ==== Proof.SortValue.lean ====
/-
  The sorts of the two programs, read at the extended reals. The largest entries of each row come in descending order,
  equal ones in the order they stood; so sorting them again, by value and then by position, moves nothing, and neither
  does sorting by any key that falls with the value.
-/
module

public import Idealize.ShloMosaic.Lib.SortFacts
public import Idealize.ShloMosaic.Lib.Pointwise
public import Idealize.ShloMosaic.PureOps.Ideal

@[expose] public section

noncomputable section

namespace Cert.Proof

open Idealize.ShloMosaic

/-! ### Lists -/

/-- A list no later entry of which sorts before an earlier one is left as it is. -/
theorem stableSort_of_pairwise {ι : Type} (before : ι → ι → Bool) (l : List ι)
    (h : l.Pairwise fun a b => before b a = false) : stableSort before l = l := by
  induction l with
  | nil => rfl
  | cons a l ih =>
    rw [List.pairwise_cons] at h
    unfold stableSort
    rw [ih h.2]
    cases l with
    | nil => rfl
    | cons b l => unfold insertBefore; rw [h.1 b List.mem_cons_self]; rfl

theorem pairwise_finRange_lt (n : ℕ) : (List.finRange n).Pairwise (· < ·) := List.pairwise_lt_finRange n

/-- Sorting positions already in order moves none. -/
theorem sortedFrom_id {n : ℕ} (before : Fin n → Fin n → Bool) (h : ∀ k k', k < k' → before k' k = false) (k : Fin n) :
    sortedFrom before k = k := by
  have e : sortPositions n before = List.finRange n :=
    stableSort_of_pairwise before _ ((pairwise_finRange_lt n).imp fun {a b} hab => h a b hab)
  unfold sortedFrom
  rw [List.get_of_eq e, List.get_eq_getElem, List.getElem_finRange]
  rfl

section desc
variable {n : ℕ} (key : Fin n → EReal)

/-- The first of two positions holds the larger key, or an equal one and stands first. -/
def Ahead (a b : Fin n) : Prop := key b < key a ∨ (key a = key b ∧ a < b)

theorem Ahead.trans {a b c : Fin n} (h : Ahead key a b) (h' : Ahead key b c) : Ahead key a c := by
  rcases h with h | ⟨h, l⟩ <;> rcases h' with h' | ⟨h', l'⟩
  · exact Or.inl (h'.trans h)
  · exact Or.inl (h' ▸ h)
  · exact Or.inl (h ▸ h')
  · exact Or.inr ⟨h.trans h', l.trans l'⟩

theorem insert_ahead (a : Fin n) (l : List (Fin n)) (ha : ∀ b ∈ l, a < b) (hl : l.Pairwise (Ahead key)) :
    (insertBefore (fun a b => decide (key b < key a)) a l).Pairwise (Ahead key) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact Or.inl (by simpa using h)
      · exact hl.1 c hc'
    · rename_i h
      have hab : Ahead key a b := by
        rcases lt_or_eq_of_le (not_lt.mp (by simpa using h)) with h | h
        · exact Or.inl h
        · exact Or.inr ⟨h.symm, ha b List.mem_cons_self⟩
      refine List.pairwise_cons.mpr ⟨fun c hc => ?_, List.pairwise_cons.mpr hl⟩
      rcases List.mem_cons.mp hc with rfl | hc'
      · exact hab
      · exact hab.trans key (hl.1 c hc')

theorem sort_ahead (l : List (Fin n)) (hl : l.Pairwise (· < ·)) :
    (stableSort (fun a b => decide (key b < key a)) l).Pairwise (Ahead key) := by
  induction l with
  | nil => exact List.Pairwise.nil
  | cons a l ih =>
    rw [List.pairwise_cons] at hl
    unfold stableSort
    exact insert_ahead key a _ (fun b hb => hl.1 b ((perm_stableSort _ l).mem_iff.mp hb)) (ih hl.2)

/-- The position a descending sort by `key` puts at each place. -/
def downFrom (k : Fin n) : Fin n := sortedFrom (fun a b => decide (key b < key a)) k

theorem downFrom_ahead {i j : Fin n} (h : i < j) : Ahead key (downFrom key i) (downFrom key j) := by
  have hp : (sortPositions n fun a b => decide (key b < key a)).Pairwise (Ahead key) :=
    sort_ahead key (List.finRange n) (pairwise_finRange_lt n)
  have hp := List.pairwise_iff_get.mp hp
  exact hp _ _ (by simp only [Fin.lt_def, Fin.val_cast]; exact h)

end desc

/-! ### The programs' sorts -/

theorem along_ix2 {m n : ℕ} (b : Fin m) (i k : Fin n) :
    Shape.Idx.along (s := ⟨2, ![m, n]⟩) (ix2 b i) (1 : Fin 2) k = ix2 b k := by
  funext a
  match a with
  | 0 => rfl
  | 1 => rfl

/-- One row of an array. -/
def row {m n : ℕ} (x : FVec Ideal ⟨2, ![m, n]⟩ .f32) (b : Fin m) (k : Fin n) : EReal := x (ix2 b k)

theorem gt_eq (a b : EReal) : ((FloatOps.cmpfTotal .gt (show Ideal .f32 from a) b : BitVec 1) == 1#1) = decide (b < a) := by
  show (BitVec.ofBool (decide (b < a)) == 1#1) = _
  by_cases h : b < a <;> simp [h]

theorem sort2_ix2 {m n : ℕ} {α β : Type} (cmp : α × β → α × β → BitVec 1) (x : (⟨2, ![m, n]⟩ : Shape).Idx → α)
    (y : (⟨2, ![m, n]⟩ : Shape).Idx → β) (b : Fin m) (i : Fin n) :
    (Host.sort2 ⟨2, ![m, n]⟩ 1 cmp x y).1 (ix2 b i)
        = x (ix2 b (sortedFrom (fun k k' => cmp (x (ix2 b k), y (ix2 b k)) (x (ix2 b k'), y (ix2 b k')) == 1#1) i))
      ∧ (Host.sort2 ⟨2, ![m, n]⟩ 1 cmp x y).2 (ix2 b i)
        = y (ix2 b (sortedFrom (fun k k' => cmp (x (ix2 b k), y (ix2 b k)) (x (ix2 b k'), y (ix2 b k')) == 1#1) i)) := by
  have hd : 1 < (⟨2, ![m, n]⟩ : Shape).rank := by show 1 < 2; omega
  have e : ∀ k : Fin n, Shape.Idx.along (s := ⟨2, ![m, n]⟩) (ix2 b i) ⟨1, hd⟩ k = ix2 b k := along_ix2 b i
  unfold Host.sort2
  rw [dif_pos hd]
  dsimp only
  have hs : sortedFrom (fun k k' : Fin n => cmp (x (Shape.Idx.along (s := ⟨2, ![m, n]⟩) (ix2 b i) ⟨1, hd⟩ k), y (Shape.Idx.along (s := ⟨2, ![m, n]⟩) (ix2 b i) ⟨1, hd⟩ k)) (x (Shape.Idx.along (s := ⟨2, ![m, n]⟩) (ix2 b i) ⟨1, hd⟩ k'), y (Shape.Idx.along (s := ⟨2, ![m, n]⟩) (ix2 b i) ⟨1, hd⟩ k')) == 1#1) i
      = sortedFrom (fun k k' : Fin n => cmp (x (ix2 b k), y (ix2 b k)) (x (ix2 b k'), y (ix2 b k')) == 1#1) i := by
    simp only [e]
  exact ⟨(congrArg (fun k : Fin n => x (Shape.Idx.along (s := ⟨2, ![m, n]⟩) (ix2 b i) ⟨1, hd⟩ k)) hs).trans (congrArg x (e _)),
    (congrArg (fun k : Fin n => y (Shape.Idx.along (s := ⟨2, ![m, n]⟩) (ix2 b i) ⟨1, hd⟩ k)) hs).trans (congrArg y (e _))⟩

/-- The `k` largest entries of each row, and where they stood. -/
theorem topK_ix2 {m n k : ℕ} (x : FVec Ideal ⟨2, ![m, n]⟩ .f32) (h : (⟨2, ![m, n]⟩ : Shape).Slices (fun _ => 0) ⟨2, ![m, k]⟩)
    (hk : k ≤ n) (b : Fin m) (i : Fin k) :
    (Host.topK ⟨2, ![m, k]⟩ 1 (FloatOps.cmpfTotal .gt) x h).1 (ix2 b i) = row x b (downFrom (row x b) ⟨i, by omega⟩)
      ∧ (Host.topK ⟨2, ![m, k]⟩ 1 (FloatOps.cmpfTotal .gt) x h).2 (ix2 b i)
        = BitVec.ofNat 32 (downFrom (row x b) ⟨i, by omega⟩).val := by
  have hd : 1 < (⟨2, ![m, n]⟩ : Shape).rank := by show 1 < 2; omega
  have hi : (⟨2, ![m, k]⟩ : Shape).rank = (⟨2, ![m, n]⟩ : Shape).rank := rfl
  set idx : IVec ⟨2, ![m, n]⟩ 32 := fun j => if hd : 1 < (⟨2, ![m, n]⟩ : Shape).rank then iotaInDim ⟨2, ![m, n]⟩ 32 ⟨1, hd⟩ j else 0#32 with hidx
  have key := sort2_ix2 (fun l r : Ideal .f32 × BitVec 32 => FloatOps.cmpfTotal .gt l.1 r.1) x idx b ⟨i, by omega⟩
  have hs : (fun k k' : Fin n => (FloatOps.cmpfTotal .gt (x (ix2 b k)) (x (ix2 b k')) : BitVec 1) == 1#1)
      = fun k k' => decide (row x b k' < row x b k) := by
    funext k k'; exact gt_eq _ _
  have hj : ∀ (w : Fin 2 → ℕ) (hw : w = fun _ => 0), True := fun _ _ => trivial
  have e0 : ∀ {γ : Type} (z : (⟨2, ![m, n]⟩ : Shape).Idx → γ),
      extractStridedSlice ⟨2, ![m, k]⟩ (fun _ => 0) z h (ix2 b i) = z (ix2 b ⟨i, by omega⟩) := by
    intro γ z
    unfold extractStridedSlice
    congr 1
    funext a
    match a with
    | 0 => exact Fin.ext (by show 0 + _ = _; rw [Nat.zero_add]; rfl)
    | 1 => exact Fin.ext (by show 0 + _ = _; rw [Nat.zero_add]; rfl)
  refine ⟨(e0 _).trans (key.1.trans ?_), (e0 _).trans (key.2.trans ?_)⟩
  · show x (ix2 b (sortedFrom _ _)) = x (ix2 b (sortedFrom _ _))
    rw [hs]
  · rw [show (sortedFrom (fun k k' : Fin n => (FloatOps.cmpfTotal .gt (x (ix2 b k)) (x (ix2 b k')) : BitVec 1) == 1#1) ⟨i, by omega⟩ : Fin n)
        = downFrom (row x b) ⟨i, by omega⟩ from by rw [hs]; rfl]
    show idx (ix2 b _) = _
    rw [hidx]
    dsimp only
    rw [dif_pos hd]
    rfl

end Cert.Proof

end
-- ==== Proof.Sorts.lean ====
/-
  The sorts after the first top scores change nothing.
-/
module

public import proofs.«01_k».proof.Proof.Arrays
public import proofs.«01_k».proof.Proof.SortValue

@[expose] public section

noncomputable section

namespace Cert.Proof

open Idealize.ShloMosaic Idealize.ShloMosaic.WordCmp

theorem ofBool_false (p : Bool) : BitVec.ofBool p = 0#1 ↔ p = false := by cases p <;> decide

/-- What the sorts first do with a number leaves it as it is. -/
theorem canon (x : Ideal .f32) :
    Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
  have h1 : (FloatOps.cmpf .une x x : BitVec 1) = 0#1 := by
    show BitVec.ofBool (decide (x ≠ x)) = 0#1
    simp
  rw [h1]
  show Scalar.select _ _ x = x
  by_cases h : x = FloatOps.ofBits .f32 0x00000000#32
  · have h2 : (FloatOps.cmpf .oeq x (FloatOps.ofBits .f32 0x00000000#32) : BitVec 1) = 1#1 := by
      show BitVec.ofBool (decide (x = _)) = 1#1
      rw [RI.ofBool_one]; exact decide_eq_true h
    rw [h2]; exact h.symm
  · have h2 : (FloatOps.cmpf .oeq x (FloatOps.ofBits .f32 0x00000000#32) : BitVec 1) = 0#1 := by
      show BitVec.ofBool (decide (x = _)) = 0#1
      rw [ofBool_false]; exact decide_eq_false h
    rw [h2]; rfl

theorem before_K (l r : Ideal .f32 × BitVec 32) :
    Cert.KernelIdeal.comparator_f32_i32_d1 l r = 1#1 ↔ (l.1 : EReal) < r.1 ∨ ((l.1 : EReal) = r.1 ∧ l.2.slt r.2 = true) := by
  unfold Cert.KernelIdeal.comparator_f32_i32_d1
  dsimp only
  rw [canon, canon]
  show IntOp.ori (BitVec.ofBool (decide ((l.1 : EReal) < r.1))) (IntOp.andi (BitVec.ofBool (decide ((l.1 : EReal) = r.1))) (BitVec.ofBool (l.2.slt r.2))) = 1#1 ↔ _
  by_cases h : (l.1 : EReal) < r.1 <;> by_cases h' : (l.1 : EReal) = r.1 <;> cases h2 : l.2.slt r.2 <;> simp [h, h', IntOp.ori, IntOp.andi]

theorem before_R (l r : Ideal .f32 × BitVec 32) : Cert.ReferenceIdeal.comparator_f32_i32_d1 l r = 1#1 ↔ (l.1 : EReal) < r.1 := by
  unfold Cert.ReferenceIdeal.comparator_f32_i32_d1
  dsimp only
  rw [canon, canon]
  show BitVec.ofBool (decide ((l.1 : EReal) < r.1)) = 1#1 ↔ _
  rw [RI.ofBool_one, decide_eq_true_iff]

open Cert.KernelIdeal in
/-- The kernel's first sort moves nothing. -/
theorem sorted_at (x : FVec Ideal S4x20000 .f32) (b : Fin 4) (i : Fin 2048) :
    (sorted x).1 (ix2 b i) = -(row x b (downFrom (row x b) ⟨i, by omega⟩))
      ∧ (sorted x).2 (ix2 b i) = BitVec.ofNat 32 (downFrom (row x b) ⟨i, by omega⟩).val := by
  have ht (k : Fin 2048) := topK_ix2 (m := 4) (n := 20000) (k := 2048) x Cert.KernelIdeal.Gen.sliceFits_S4x20000_S4x2048 (by omega) b k
  have hs := sort2_ix2 (m := 4) (n := 2048) comparator_f32_i32_d1
    (Host.negf (Host.topK S4x2048 1 (FloatOps.cmpfTotal .gt) x Cert.KernelIdeal.Gen.sliceFits_S4x20000_S4x2048).1)
    (Host.topK S4x2048 1 (FloatOps.cmpfTotal .gt) x Cert.KernelIdeal.Gen.sliceFits_S4x20000_S4x2048).2 b i
  rw [sortedFrom_id] at hs
  · exact ⟨hs.1.trans (congrArg (fun y : EReal => -y) (ht i).1), hs.2.trans (ht i).2⟩
  · intro k k' hk
    have ha := downFrom_ahead (row x b) (i := ⟨k, by omega⟩) (j := ⟨k', by omega⟩) hk
    rw [beq_eq_false_iff_ne, ne_eq, before_K]
    dsimp only
    rw [(ht k).2, (ht k').2]
    have hn (k : Fin 2048) : (Host.negf (Host.topK S4x2048 1 (FloatOps.cmpfTotal .gt) x Cert.KernelIdeal.Gen.sliceFits_S4x20000_S4x2048).1 : FVec Ideal S4x2048 .f32) (ix2 b k)
        = -(row x b (downFrom (row x b) ⟨k, by omega⟩)) := congrArg (fun y : EReal => -y) (ht k).1
    rw [hn k, hn k', EReal.neg_lt_neg_iff, neg_inj, BitVec.slt_iff_toInt_lt, toInt_ofNat_of_lt (by omega), toInt_ofNat_of_lt (by omega)]
    rintro (h | ⟨h, h'⟩)
    · rcases ha with g | ⟨g, -⟩
      · exact absurd h (not_lt.mpr g.le)
      · exact absurd h (by rw [g]; exact lt_irrefl _)
    · rcases ha with g | ⟨-, g⟩
      · exact absurd g (by rw [h]; exact lt_irrefl _)
      · have : (downFrom (row x b) ⟨k, by omega⟩).val < (downFrom (row x b) ⟨k', by omega⟩).val := g
        omega

theorem top_at (x : FVec Ideal Cert.KernelIdeal.S4x20000 .f32) (b : Fin 4) (i : Fin 2000) :
    (RI.top x).1 (ix2 b i) = row x b (downFrom (row x b) ⟨i, by omega⟩)
      ∧ (RI.top x).2 (ix2 b i) = BitVec.ofNat 32 (downFrom (row x b) ⟨i, by omega⟩).val :=
  topK_ix2 (m := 4) (n := 20000) (k := 2000) x Cert.ReferenceIdeal.Gen.sliceFits_S4x20000_S4x2000 (by omega) b i

theorem ix2_all {α : Type} {m n : ℕ} (f g : (⟨2, ![m, n]⟩ : Shape).Idx → α) (h : ∀ b i, f (ix2 b i) = g (ix2 b i)) : f = g := by
  funext i
  have : i = ix2 (i 0) (i 1) := by funext a; fin_cases a <;> rfl
  rw [this]; exact h _ _

open Cert.KernelIdeal Cert.KernelIdeal.Gen in
theorem scores_eq (x : FVec Ideal S4x20000 .f32) :
    (Host.negf (extractStridedSlice S4x2000 ![0, 0] (sorted x).1 slices_S4x2048_S4x2000_0_0) : FVec Ideal S4x2000 .f32) = (RI.top x).1 := by
  refine ix2_all (m := 4) (n := 2000) _ _ fun b i => ?_
  rw [(top_at x b i).1]
  have e : (extractStridedSlice S4x2000 ![0, 0] (sorted x).1 slices_S4x2048_S4x2000_0_0) (ix2 b i) = (sorted x).1 (ix2 b ⟨i, by omega⟩) := by
    pointwise
  refine (congrArg (fun y : EReal => -y) (e.trans (sorted_at x b ⟨i, by omega⟩).1)).trans ?_
  exact neg_neg _

open Cert.KernelIdeal Cert.KernelIdeal.Gen in
theorem places_eq (x : FVec Ideal S4x20000 .f32) :
    extractStridedSlice S4x2000 ![0, 0] (sorted x).2 slices_S4x2048_S4x2000_0_0 = (RI.top x).2 := by
  refine ix2_all (m := 4) (n := 2000) _ _ fun b i => ?_
  rw [(top_at x b i).2]
  have e : (extractStridedSlice S4x2000 ![0, 0] (sorted x).2 slices_S4x2048_S4x2000_0_0) (ix2 b i) = (sorted x).2 (ix2 b ⟨i, by omega⟩) := by
    pointwise
  exact e.trans (sorted_at x b ⟨i, by omega⟩).2

/-- The top scores fall. -/
theorem top_falls (x : FVec Ideal Cert.KernelIdeal.S4x20000 .f32) (b : Fin 4) {i j : Fin 2000} (h : i < j) :
    (RI.top x).1 (ix2 b j) ≤ (RI.top x).1 (ix2 b i) := by
  rw [(top_at x b i).1, (top_at x b j).1]
  rcases downFrom_ahead (row x b) (i := ⟨i, by omega⟩) (j := ⟨j, by omega⟩) h with g | ⟨g, -⟩
  · exact g.le
  · exact g.ge

/-- Falling scores are in order. -/
theorem order_id (s : FVec Ideal Cert.ReferenceIdeal.S4x2000 .f32) (h : ∀ (b : Fin 4) (i j : Fin 2000), i < j → s (ix2 b j) ≤ s (ix2 b i)) :
    RI.order s = iotaInDim Cert.ReferenceIdeal.S4x2000 32 1 := by
  refine ix2_all (m := 4) (n := 2000) _ _ fun b i => ?_
  have hs := (sort2_ix2 (m := 4) (n := 2000) Cert.ReferenceIdeal.comparator_f32_i32_d1 (Host.negf s) (iotaInDim Cert.ReferenceIdeal.S4x2000 32 1) b i).2
  rw [sortedFrom_id] at hs
  · exact hs
  · intro k k' hk
    rw [beq_eq_false_iff_ne, ne_eq, before_R]
    show ¬ (-(s (ix2 b k') : EReal) < -(s (ix2 b k) : EReal))
    rw [EReal.neg_lt_neg_iff]
    exact not_lt.mpr (h b k k' hk)

end Cert.Proof

end
-- ==== Proof.Takes.lean ====
/-
  Taking rows and numbers at given positions.
-/
module

public import proofs.«01_k».proof.Proof.HostRef
public import proofs.«01_k».proof.Proof.Sorts
public import Idealize.ShloMosaic.Lib.ReduceAll

@[expose] public section

noncomputable section

namespace Cert.Proof

open Idealize.ShloMosaic Idealize.ShloMosaic.WordCmp

theorem gather_num {α : Type} (x : Cert.ReferenceIdeal.S4x2000.Idx → α) (i : IVec Cert.ReferenceIdeal.S4x2000x1 32) (b : Fin 4) (j : Fin 2000) :
    Host.gather Cert.ReferenceIdeal.gather_S4x2000_S4x2000x1_S4x2000_n_1_0_0_1_2_11 x i (ix2 b j)
      = x (ix2 b ⟨min (i (ix3 b j 0)).toInt.toNat 1999, by omega⟩) := by
  unfold Host.gather
  congr 1
  funext a
  refine Fin.ext ?_
  match a with
  | ⟨0, _⟩ =>
    show Cert.ReferenceIdeal.gather_S4x2000_S4x2000x1_S4x2000_n_1_0_0_1_2_11.start (ix2 b j) i 0 + Cert.ReferenceIdeal.gather_S4x2000_S4x2000x1_S4x2000_n_1_0_0_1_2_11.batchCoord (ix2 b j) 0 + Cert.ReferenceIdeal.gather_S4x2000_S4x2000x1_S4x2000_n_1_0_0_1_2_11.offCoord (ix2 b j) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ Cert.ReferenceIdeal.gather_S4x2000_S4x2000x1_S4x2000_n_1_0_0_1_2_11.operandBatchingDims from List.mem_singleton.mpr rfl)]
    rfl
  | ⟨1, _⟩ =>
    show min (i _).toInt.toNat 1999 + 0 + 0 = min (i (ix3 b j 0)).toInt.toNat 1999
    have : (Cert.ReferenceIdeal.gather_S4x2000_S4x2000x1_S4x2000_n_1_0_0_1_2_11.siIdx (ix2 b j) ⟨0, by decide⟩) = ix3 b j 0 := by
      funext c
      match c with
      | ⟨0, _⟩ => rfl
      | ⟨1, _⟩ => rfl
      | ⟨2, _⟩ => rfl
    rw [← this]; rfl

theorem gather_row {α : Type} (x : Cert.KernelIdeal.S4x20000x4.Idx → α) (i : IVec Cert.KernelIdeal.S4x2000x1 32) (b : Fin 4) (j : Fin 2000) (k : Fin 4) :
    Host.gather Cert.KernelIdeal.gather_S4x20000x4_S4x2000x1_S4x2000x4_2_1_0_0_1_2_114 x i (ix3 b j k)
      = x (ix3 b ⟨min (i (ix3 b j 0)).toInt.toNat 19999, by omega⟩ k) := by
  unfold Host.gather
  congr 1
  funext a
  refine Fin.ext ?_
  match a with
  | ⟨0, _⟩ =>
    show Cert.KernelIdeal.gather_S4x20000x4_S4x2000x1_S4x2000x4_2_1_0_0_1_2_114.start (ix3 b j k) i 0 + Cert.KernelIdeal.gather_S4x20000x4_S4x2000x1_S4x2000x4_2_1_0_0_1_2_114.batchCoord (ix3 b j k) 0 + Cert.KernelIdeal.gather_S4x20000x4_S4x2000x1_S4x2000x4_2_1_0_0_1_2_114.offCoord (ix3 b j k) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ Cert.KernelIdeal.gather_S4x20000x4_S4x2000x1_S4x2000x4_2_1_0_0_1_2_114.operandBatchingDims from List.mem_singleton.mpr rfl)]
    rfl
  | ⟨1, _⟩ =>
    show min (i _).toInt.toNat 19999 + 0 + 0 = min (i (ix3 b j 0)).toInt.toNat 19999
    have : (Cert.KernelIdeal.gather_S4x20000x4_S4x2000x1_S4x2000x4_2_1_0_0_1_2_114.siIdx (ix3 b j k) ⟨0, by decide⟩) = ix3 b j 0 := by
      funext c
      match c with
      | ⟨0, _⟩ => rfl
      | ⟨1, _⟩ => rfl
      | ⟨2, _⟩ => rfl
    rw [← this]; rfl
  | ⟨2, _⟩ =>
    show 0 + 0 + k.val = k.val
    omega

theorem gather_num_of {α : Type} (x : Cert.ReferenceIdeal.S4x2000.Idx → α) (i : IVec Cert.ReferenceIdeal.S4x2000x1 32) (b : Fin 4) (j q : Fin 2000)
    (h : i (ix3 b j 0) = BitVec.ofNat 32 q.val) :
    Host.gather Cert.ReferenceIdeal.gather_S4x2000_S4x2000x1_S4x2000_n_1_0_0_1_2_11 x i (ix2 b j) = x (ix2 b q) := by
  rw [gather_num]
  congr 2
  refine Fin.ext ?_
  show min (i (ix3 b j 0)).toInt.toNat 1999 = q.val
  rw [h, toInt_ofNat_of_lt (by omega)]
  omega

theorem gather_row_of {α : Type} (x : Cert.KernelIdeal.S4x20000x4.Idx → α) (i : IVec Cert.KernelIdeal.S4x2000x1 32) (b : Fin 4) (j : Fin 2000) (k : Fin 4)
    (q : Fin 20000) (h : i (ix3 b j 0) = BitVec.ofNat 32 q.val) :
    Host.gather Cert.KernelIdeal.gather_S4x20000x4_S4x2000x1_S4x2000x4_2_1_0_0_1_2_114 x i (ix3 b j k) = x (ix3 b q k) := by
  rw [gather_row]
  congr 2
  refine Fin.ext ?_
  show min (i (ix3 b j 0)).toInt.toNat 19999 = q.val
  rw [h, toInt_ofNat_of_lt (by omega)]
  omega

theorem ix3_all {m n k : ℕ} (p : (⟨3, ![m, n, k]⟩ : Shape).Idx → Prop) (h : ∀ a b c, p (ix3 a b c)) (i : (⟨3, ![m, n, k]⟩ : Shape).Idx) : p i := by
  have : i = ix3 (i 0) (i 1) (i 2) := by funext a; fin_cases a <;> rfl
  rw [this]; exact h _ _ _

theorem not_negative {n : ℕ} (h : n < 2 ^ 31) : (BitVec.ofBool ((BitVec.ofNat 32 n).slt 0#32)) = 0#1 := by
  rw [ofBool_false, Bool.eq_false_iff, ne_eq, BitVec.slt_iff_toInt_lt, toInt_ofNat_of_lt (by omega)]
  simp

theorem at_least_zero {n : ℕ} (h : n < 2 ^ 31) : (BitVec.ofBool ((0#32 : BitVec 32).sle (BitVec.ofNat 32 n))) = 1#1 := by
  rw [RI.ofBool_one, BitVec.sle_iff_toInt_le, toInt_ofNat_of_lt (by omega), toInt_ofNat_of_lt (by omega)]
  omega

theorem at_most {n m : ℕ} (hm : m < 2 ^ 31) (h : n ≤ m) : (BitVec.ofBool ((BitVec.ofNat 32 n).sle (BitVec.ofNat 32 m))) = 1#1 := by
  rw [RI.ofBool_one, BitVec.sle_iff_toInt_le, toInt_ofNat_of_lt (by omega), toInt_ofNat_of_lt (by omega)]
  omega

open Cert.ReferenceIdeal Cert.ReferenceIdeal.Gen in
theorem wrapAt_iota (b : Fin 4) (j : Fin 2000) (k : Fin 1) : RI.wrapAt (iotaInDim S4x2000 32 1) (ix3 b j k) = BitVec.ofNat 32 j.val := by
  unfold RI.wrapAt
  pointwise
  show Scalar.select (BitVec.ofBool ((BitVec.ofNat 32 j.val).slt 0#32)) _ _ = _
  rw [not_negative (by omega)]
  rfl

open Cert.ReferenceIdeal Cert.ReferenceIdeal.Gen in
theorem inRange_iota (i : S4x2000.Idx) : RI.inRange (iotaInDim S4x2000 32 1) i = 1#1 := by
  unfold RI.inRange
  refine Idealize.ShloMosaic.Host.reduce_andi_one _ _ _ _ _ rfl (ix3_all (m := 4) (n := 2000) (k := 1) _ fun b j k => ?_)
  pointwise
  rw [wrapAt_iota]
  show IntOp.andi (BitVec.ofBool ((0#32 : BitVec 32).sle (BitVec.ofNat 32 j.val))) (BitVec.ofBool ((BitVec.ofNat 32 j.val).sle (BitVec.ofNat 32 1999))) = 1#1
  rw [at_least_zero (by omega), at_most (by omega) (by omega)]
  rfl

open Cert.KernelIdeal Cert.KernelIdeal.Gen in
theorem wrapIdx_at (i : IVec S4x2000x1 32) (f : Fin 4 → Fin 2000 → Fin 20000) (hi : ∀ b j k, i (ix3 b j k) = BitVec.ofNat 32 (f b j).val)
    (b : Fin 4) (j : Fin 2000) (k : Fin 1) : wrapIdx i (ix3 b j k) = BitVec.ofNat 32 (f b j).val := by
  unfold wrapIdx
  pointwise
  rw [hi]
  show Scalar.select (BitVec.ofBool ((BitVec.ofNat 32 (f b j).val).slt 0#32)) _ _ = _
  rw [not_negative (by omega)]
  rfl

open Cert.KernelIdeal Cert.KernelIdeal.Gen in
/-- The rows taken are the rows asked for. -/
theorem takeRows_at (x : FVec Ideal S4x20000x4 .f32) (i : IVec S4x2000x1 32) (f : Fin 4 → Fin 2000 → Fin 20000)
    (hi : ∀ b j k, i (ix3 b j k) = BitVec.ofNat 32 (f b j).val) (b : Fin 4) (j : Fin 2000) (k : Fin 4) :
    takeRows x i (ix3 b j k) = x (ix3 b (f b j) k) := by
  have hr : ∀ q, (Host.reduce IntOp.andi
        (andi (cmpi .sge (wrapIdx i) (broadcastInDim S4x2000x1 ![] bcast_S_S4x2000x1 (constantI S_ 32 0#32)))
          (cmpi .sle (wrapIdx i) (broadcastInDim S4x2000x1 ![0, 1, 2] bcast_S1x1x1_S4x2000x1_0_1_2
            (broadcastInDim S1x1x1 ![2] bcast_S1_S1x1x1_2 (constantI S1 32 19999#32)))))
        (constantI S_ 1 1#1) reducesTo_S4x2000x1_S4x2000_d2 h_S_) q = 1#1 := by
    intro q
    refine Idealize.ShloMosaic.Host.reduce_andi_one _ _ _ _ _ rfl (ix3_all (m := 4) (n := 2000) (k := 1) _ fun b j k => ?_)
    pointwise
    rw [wrapIdx_at i f hi]
    show IntOp.andi (BitVec.ofBool ((0#32 : BitVec 32).sle (BitVec.ofNat 32 (f b j).val))) (BitVec.ofBool ((BitVec.ofNat 32 (f b j).val).sle (BitVec.ofNat 32 19999))) = 1#1
    rw [at_least_zero (by omega), at_most (by omega) (by omega)]
    rfl
  unfold takeRows
  generalize Host.reduce IntOp.andi _ _ _ _ = r at hr ⊢
  pointwise
  rw [hr, gather_row_of x _ b j k _ (wrapIdx_at i f hi b j 0)]
  rfl

open Cert.ReferenceIdeal Cert.ReferenceIdeal.Gen in
theorem takeAt_iota (x : FVec Ideal S4x2000 .f32) : RI.takeAt x (iotaInDim S4x2000 32 1) = x := by
  refine ix2_all (m := 4) (n := 2000) _ _ fun b j => ?_
  have hr := inRange_iota
  have hw := gather_num_of x _ b j j (wrapAt_iota b j 0)
  unfold RI.takeAt
  generalize RI.inRange _ = r at hr ⊢
  generalize Host.gather _ x _ = y at hw ⊢
  pointwise
  rw [hr, hw]
  rfl

open Cert.ReferenceIdeal Cert.ReferenceIdeal.Gen in
theorem takeBit_iota (x : IVec S4x2000 1) : RI.takeBit x (iotaInDim S4x2000 32 1) = x := by
  refine ix2_all (m := 4) (n := 2000) _ _ fun b j => ?_
  have hr := inRange_iota
  have hw := gather_num_of x _ b j j (wrapAt_iota b j 0)
  unfold RI.takeBit
  generalize RI.inRange _ = r at hr ⊢
  generalize Host.gather _ x _ = y at hw ⊢
  pointwise
  rw [hr, hw]
  rfl

end Cert.Proof

end
-- ==== Proof.PreFacts.lean ====
/-
  The shape facts of the precondition's operations.
-/
module

public import proofs.«01_k».proof.Pre_every_box_has_size
public import Idealize.ShloMosaic.Lib.Decide

@[expose] public section

namespace Cert.Proof

open Idealize.ShloMosaic

theorem preFacts : Cert.Pre_every_box_has_size.Facts where
  bcast_S_S4x20000x4 := by decide
  slices_S4x20000x4_S4x20000x2_0_0_2 := by decide
  slices_S4x20000x4_S4x20000x2_0_0_0 := by decide
  bcast_S_S4x20000x2 := by decide
  reducesTo_S4x20000x2_S_d0_1_2 := by decide
  h_S_ := by decide

end Cert.Proof
-- ==== Proof.Sound.lean ====
/-
  Under the precondition every box taken is sound, and the scores are already in order.
-/
module

public import proofs.«01_k».proof.Proof.Takes
public import proofs.«01_k».proof.Proof.PreFacts

@[expose] public section

noncomputable section

namespace Cert.Proof

open Idealize.ShloMosaic Idealize.ShloMosaic.WordCmp

theorem exp_mono {x y : EReal} (h : x ≤ y) : Ideal.exp x ≤ Ideal.exp y := by
  induction x with
  | bot => induction y with
    | bot => exact le_rfl
    | top => exact le_top
    | coe r => exact EReal.coe_nonneg.mpr (Real.exp_pos r).le
  | top => rw [top_le_iff.mp h]
  | coe r => induction y with
    | bot => exact absurd h (by simp)
    | top => exact le_top
    | coe s => exact EReal.coe_le_coe_iff.mpr (Real.exp_le_exp.mpr (EReal.coe_le_coe_iff.mp h))

theorem exp_nonneg (x : EReal) : 0 ≤ Ideal.exp x := by
  induction x with
  | bot => exact le_rfl
  | top => exact le_top
  | coe r => exact EReal.coe_nonneg.mpr (Real.exp_pos r).le

theorem inv_anti {d e : EReal} (h : 1 ≤ d) (g : d ≤ e) : e⁻¹ ≤ d⁻¹ := by
  induction d with
  | bot => exact absurd (le_bot_iff.mp h) (EReal.coe_ne_bot 1)
  | top => rw [top_le_iff.mp g]
  | coe r =>
    have hr : (1 : ℝ) ≤ r := EReal.coe_le_coe_iff.mp h
    induction e with
    | bot => exact absurd g (by simp)
    | top =>
      rw [EReal.inv_top, ← EReal.coe_inv]
      exact EReal.coe_nonneg.mpr (inv_nonneg.mpr (by linarith))
    | coe s =>
      rw [← EReal.coe_inv, ← EReal.coe_inv]
      exact EReal.coe_le_coe_iff.mpr (inv_anti₀ (by linarith) (EReal.coe_le_coe_iff.mp g))

/-- One over one plus the exponential of minus `x`. -/
def squash (x : EReal) : EReal := (1 + Ideal.exp (-x))⁻¹

theorem one_le (x : EReal) : 1 ≤ 1 + Ideal.exp (-x) := by
  simpa using add_le_add_right (exp_nonneg (-x)) 1

theorem squash_mono {x y : EReal} (h : x ≤ y) : squash x ≤ squash y :=
  inv_anti (one_le y) (add_le_add_right (exp_mono (EReal.neg_le_neg_iff.mpr h)) 1)

theorem squash_nonneg (x : EReal) : 0 ≤ squash x := by
  have h : (0 : EReal) = (⊤ : EReal)⁻¹ := EReal.inv_top.symm
  rw [h]
  exact inv_anti (one_le x) le_top

open Cert.KernelIdeal Cert.KernelIdeal.Gen

theorem sigmoid_at (x : FVec Ideal S4x2000 .f32) (b : Fin 4) (i : Fin 2000) : sigmoid x (ix2 b i) = squash (x (ix2 b i)) := by
  unfold sigmoid
  pointwise
  unfold Ideal.div squash
  rw [if_neg (zero_lt_one.trans_le (one_le _)).ne', one_mul]

/-- The sigmoid keeps falling scores falling. -/
theorem sigmoid_falls (x : FVec Ideal S4x20000 .f32) (b : Fin 4) (i j : Fin 2000) (h : i < j) :
    sigmoid (RI.top x).1 (ix2 b j) ≤ sigmoid (RI.top x).1 (ix2 b i) := by
  rw [sigmoid_at, sigmoid_at]
  exact squash_mono (top_falls x b h)

/-- A coordinate cut to the picture. -/
def cut (v : EReal) : EReal := min (Ideal.ofBits .f32 0x44480000#32) (max 0 v)

/-- The least side a box may have. -/
def least : EReal := Ideal.ofBits .f32 0x3A83126F#32

/-- A box's width and height. -/
theorem sides (m : FVec Ideal S4x20000x4 .f32) (s : FVec Ideal S4x20000 .f32)
    (h : (@Cert.Pre_every_box_has_size.fn preFacts Ideal _ m s) = fun _ => 1#1) (b : Fin 4) (q : Fin 20000) :
    least ≤ cut (m (ix3 b q 2)) - cut (m (ix3 b q 0)) ∧ least ≤ cut (m (ix3 b q 3)) - cut (m (ix3 b q 1)) := by
  unfold Cert.Pre_every_box_has_size.fn at h
  have : Subsingleton Cert.Pre_every_box_has_size.S_.Idx := ⟨fun a b => funext fun c => c.elim0⟩
  have h2 (k : Fin 2) := Host.reduce_andi_all _ _ _ _ (fun c => c.elim0) (congrFun h (fun c => c.elim0)) (ix3 b q k)
  have h3 := h2 0
  have h4 := h2 1
  revert h3 h4
  pointwise
  rw [RI.ofBool_one, RI.ofBool_one, decide_eq_true_iff, decide_eq_true_iff]
  have hc (v : EReal) : min (max v 0) (Ideal.ofBits .f32 0x44480000#32) = cut v := by
    rw [cut, min_comm, max_comm]
  simp only [hc]
  exact fun h3 h4 => ⟨h3, h4⟩

theorem col1_at (x : FVec Ideal S4x2000x4 .f32) (b : Fin 4) (i : Fin 2000) : col1 x (ix2 b i) = cut (x (ix3 b i 0)) := by
  unfold col1 clip
  pointwise
  rfl

theorem col2_at (x : FVec Ideal S4x2000x4 .f32) (b : Fin 4) (i : Fin 2000) : col2 x (ix2 b i) = cut (x (ix3 b i 1)) := by
  unfold col2 clip
  pointwise
  rfl

theorem col3_at (x : FVec Ideal S4x2000x4 .f32) (b : Fin 4) (i : Fin 2000) : col3 x (ix2 b i) = cut (x (ix3 b i 2)) := by
  unfold col3 clip
  pointwise
  rfl

theorem col4_at (x : FVec Ideal S4x2000x4 .f32) (b : Fin 4) (i : Fin 2000) : col4 x (ix2 b i) = cut (x (ix3 b i 3)) := by
  unfold col4 clip
  pointwise
  rfl

/-- The boxes of the top scores. -/
def taken (m : FVec Ideal S4x20000x4 .f32) (s : FVec Ideal S4x20000 .f32) : FVec Ideal S4x2000x4 .f32 :=
  takeRows m (broadcastInDim S4x2000x1 ![0, 1] bcast_S4x2000_S4x2000x1_0_1 (RI.top s).2)

theorem upright_at (p : IVec S4x2000 32) (b : Fin 4) (j : Fin 2000) (k : Fin 1) :
    broadcastInDim S4x2000x1 ![0, 1] bcast_S4x2000_S4x2000x1_0_1 p (ix3 b j k) = p (ix2 b j) := by
  pointwise

/-- Where the score at place `i` of line `b` was. -/
def place (s : FVec Ideal S4x20000 .f32) (b : Fin 4) (i : Fin 2000) : Fin 20000 := downFrom (row s b) ⟨i, by omega⟩

theorem place_at (s : FVec Ideal S4x20000 .f32) (b : Fin 4) (i : Fin 2000) : (RI.top s).2 (ix2 b i) = BitVec.ofNat 32 (place s b i).val :=
  (top_at s b i).2

theorem places_at (s : FVec Ideal S4x20000 .f32) (b : Fin 4) (i : Fin 2000) (k : Fin 1) :
    broadcastInDim S4x2000x1 ![0, 1] bcast_S4x2000_S4x2000x1_0_1 (RI.top s).2 (ix3 b i k) = BitVec.ofNat 32 (place s b i).val :=
  (upright_at _ b i k).trans (place_at s b i)

theorem taken_at (m : FVec Ideal S4x20000x4 .f32) (s : FVec Ideal S4x20000 .f32) (b : Fin 4) (i : Fin 2000) (k : Fin 4) :
    taken m s (ix3 b i k) = m (ix3 b (place s b i) k) :=
  takeRows_at m _ (place s) (places_at s) b i k

/-- The sigmoids of the top scores. -/
def scores (s : FVec Ideal S4x20000 .f32) : FVec Ideal S4x2000 .f32 := sigmoid (RI.top s).1

/-- Under the precondition every box taken is sound. -/
theorem all_sound (m : FVec Ideal S4x20000x4 .f32) (s : FVec Ideal S4x20000 .f32)
    (h : (@Cert.Pre_every_box_has_size.fn preFacts Ideal _ m s) = fun _ => 1#1) :
    RI.sound (col1 (taken m s)) (col2 (taken m s)) (col3 (taken m s)) (col4 (taken m s)) (scores s) = fun _ => 1#1 := by
  refine ix2_all (m := 4) (n := 2000) _ _ fun b i => ?_
  have hs := sides m s h b (place s b i)
  unfold RI.sound
  pointwise
  rw [col1_at, col2_at, col3_at, col4_at, taken_at, taken_at, taken_at, taken_at, IntOp.andi_eq_one, IntOp.andi_eq_one,
    RI.ofBool_one, RI.ofBool_one, RI.ofBool_one, decide_eq_true_iff, decide_eq_true_iff, decide_eq_true_iff]
  refine ⟨hs, ?_⟩
  rw [scores, sigmoid_at]
  exact squash_nonneg _

theorem marked_all (x : FVec Ideal S4x2000 .f32) : marked (fun _ => 1#1) x = x := by
  refine ix2_all (m := 4) (n := 2000) _ _ fun b i => ?_
  unfold marked
  pointwise

theorem in_order (s : FVec Ideal S4x20000 .f32) : RI.order (scores s) = iotaInDim Cert.ReferenceIdeal.S4x2000 32 1 :=
  order_id _ fun b i j h => sigmoid_falls s b i j h

end Cert.Proof

end
-- ==== Proof.Same.lean ====
/-
  Both programs end with the same boxes and scores.
-/
module

public import proofs.«01_k».proof.Proof.Ends
public import proofs.«01_k».proof.Proof.Sound

@[expose] public section

noncomputable section

namespace Cert.Proof

open Idealize.ShloMosaic Idealize.SL.Sem
open Idealize.ShloMosaic.TcCoe

namespace KI

open Cert.KernelIdeal Cert.KernelIdeal.Gen

variable (V : Valuation τ sig (Elt Ideal)) (x : FVec Ideal S4x20000x4 .f32) (s : FVec Ideal S4x20000 .f32)

theorem E_boxes (h0 : V (Proc.devRef .tc main_arg0) = x) (h1 : V (Proc.devRef .tc main_arg1) = s) :
    E V (Proc.devRef .tc main_v6) = taken x s := by
  rw [E_v6, E_arg0, E_v5, h0, h1, places_eq]; rfl

theorem E_scores (h1 : V (Proc.devRef .tc main_arg1) = s) : E V (Proc.devRef .tc main_v24) = scores s := by
  rw [E_v24, E_v3, h1, scores_eq]; rfl

variable (m : (ℓ : Loc nD τ sig) → Buf (Elt Ideal) ℓ)

/-- What the kernel leaves in its result. -/
def final (c : Dev nD) : Buf (Elt Ideal) ((c.tc : Thread nD τ).loc main_v55) :=
  Pipeline.afterTail₀ (cfgs (F := Ideal)) (dats m) 0 (V₀ m) (post (F := Ideal)) c main_v55

theorem run_final (g : Dev nD → PrngReg) :
    θ_run (defs (F := Ideal)) (onTc (τ := τ) (main (F := Ideal))) ⟨m, fun _ => 0, g⟩ (fun r => ∀ c : Dev nD,
      r.2.mem ((c.tc : Thread nD τ).loc main_v55) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) (onTc (τ := τ) (main (F := Ideal))) ⟨m, fun _ => 0, g⟩).mono ?_ (run_main m g)
  rintro r ⟨h, -⟩ c
  refine ⟨?_, ?_, ?_⟩
  · exact (h c).2 main_v55 (Pipeline.mem_restRefs_of (win := spec0) main_v55 (by decide) (by decide))
  · exact ((h c).2 main_arg0 (Pipeline.mem_restRefs_of (win := spec0) main_arg0 (by decide) (by decide))).trans (arg_kept m c (by decide))
  · exact ((h c).2 main_arg1 (Pipeline.mem_restRefs_of (win := spec0) main_arg1 (by decide) (by decide))).trans (arg_kept m c (by decide))

theorem final_eq (c : Dev nD) (h0 : start m c (Proc.devRef .tc main_arg0) = x) (h1 : start m c (Proc.devRef .tc main_arg1) = s) :
    ∃ k, MarksOf (col1 (taken x s)) (col2 (taken x s)) (col3 (taken x s)) (col4 (taken x s)) k
      ∧ final m c = answer (marked k (scores s)) (boxes (col1 (taken x s)) (col2 (taken x s)) (col3 (taken x s)) (col4 (taken x s))) := by
  obtain ⟨k, hk, e⟩ := result m c
  rw [E_v9, E_v12, E_v15, E_v18, E_boxes _ x s h0 h1] at hk
  rw [E_v9, E_v12, E_v15, E_v18, E_boxes _ x s h0 h1, E_scores _ s h1] at e
  exact ⟨k, hk, e⟩

end KI

namespace RI

open Cert.ReferenceIdeal Cert.ReferenceIdeal.Gen Cert.ReferenceIdeal.Value
open StableHlo

variable (V : Valuation τ sig (Elt Ideal)) (x : FVec Ideal S4x20000x4 .f32) (s : FVec Ideal S4x20000 .f32)

theorem E_boxes (h0 : V (Proc.devRef .tc main_arg0) = x) (h1 : V (Proc.devRef .tc main_arg1) = s) :
    E V (Proc.devRef .tc main_v1) = taken x s := by
  rw [E_v1, E_arg0, E_v0, h0, h1]; rfl

theorem E_scores (h1 : V (Proc.devRef .tc main_arg1) = s) : E V (Proc.devRef .tc main_v7) = scores s := by
  rw [E_v7, E_values, h1]; rfl

variable (h0 : V (Proc.devRef .tc main_arg0) = x) (h1 : V (Proc.devRef .tc main_arg1) = s)
  (hp : (@Cert.Pre_every_box_has_size.fn preFacts Ideal _ x s) = fun _ => 1#1)

include h0 h1 hp

theorem E_sound : E V (Proc.devRef .tc main_v29) = (fun _ => 1#1 : IVec S4x2000 1) := by
  rw [E_v29, E_v10, E_v13, E_v16, E_v19, E_boxes V x s h0 h1, E_scores V s h1]
  exact all_sound x s hp

theorem E_marked : E V (Proc.devRef .tc main_v30) = scores s := by
  have h := E_sound V x s h0 h1 hp
  rw [E_v29] at h
  rw [E_v30, h, E_scores V s h1]
  exact marked_all _

theorem E_order : E V (Proc.devRef .tc main_v32) = (iotaInDim S4x2000 32 1 : IVec S4x2000 32) := by
  rw [E_v32, E_marked V x s h0 h1 hp]
  exact in_order s

theorem E_col1 : E V (Proc.devRef .tc main_v33) = col1 (taken x s) := by
  rw [E_v33, E_order V x s h0 h1 hp, takeAt_iota, E_v10, E_boxes V x s h0 h1]

theorem E_col2 : E V (Proc.devRef .tc main_v34) = col2 (taken x s) := by
  rw [E_v34, E_order V x s h0 h1 hp, takeAt_iota, E_v13, E_boxes V x s h0 h1]

theorem E_col3 : E V (Proc.devRef .tc main_v35) = col3 (taken x s) := by
  rw [E_v35, E_order V x s h0 h1 hp, takeAt_iota, E_v16, E_boxes V x s h0 h1]

theorem E_col4 : E V (Proc.devRef .tc main_v36) = col4 (taken x s) := by
  rw [E_v36, E_order V x s h0 h1 hp, takeAt_iota, E_v19, E_boxes V x s h0 h1]

theorem E_tops : E V (Proc.devRef .tc main_v37) = scores s := by
  rw [E_v37, E_order V x s h0 h1 hp, takeAt_iota, E_marked V x s h0 h1 hp]

theorem E_alive : E V (Proc.devRef .tc main_v38) = (fun _ => 1#1 : IVec S4x2000 1) := by
  rw [E_v38, E_order V x s h0 h1 hp, takeBit_iota, E_sound V x s h0 h1 hp]

omit h0 h1 hp

variable (m : (ℓ : Loc nD τ sig) → Buf (Elt Ideal) ℓ)

/-- What the reference leaves in its result. -/
def final (c : Dev nD) : Buf (Elt Ideal) ((c.tc : Thread nD τ).loc main_v87) :=
  finalContents condOps preI bodyI postI 2000 m c (Proc.devRef .tc main_v87)

theorem run_final (g : Dev nD → PrngReg) :
    θ_run (defs (F := Ideal)) (onTc (τ := τ) (main (F := Ideal))) ⟨m, fun _ => 0, g⟩ (fun r => ∀ c : Dev nD,
      r.2.mem ((c.tc : Thread nD τ).loc main_v87) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)) := run_value m g

theorem final_eq (c : Dev nD) (h0 : start m c (Proc.devRef .tc main_arg0) = x) (h1 : start m c (Proc.devRef .tc main_arg1) = s)
    (hp : (@Cert.Pre_every_box_has_size.fn preFacts Ideal _ x s) = fun _ => 1#1) :
    ∃ k, MarksOf (col1 (taken x s)) (col2 (taken x s)) (col3 (taken x s)) (col4 (taken x s)) k
      ∧ final m c = answer (marked k (scores s)) (boxes (col1 (taken x s)) (col2 (taken x s)) (col3 (taken x s)) (col4 (taken x s))) := by
  obtain ⟨k, hk, e⟩ := result m c fun i => congrFun (E_alive _ x s h0 h1 hp) i
  rw [E_col1 _ x s h0 h1 hp, E_col2 _ x s h0 h1 hp, E_col3 _ x s h0 h1 hp, E_col4 _ x s h0 h1 hp] at hk
  rw [E_col1 _ x s h0 h1 hp, E_col2 _ x s h0 h1 hp, E_col3 _ x s h0 h1 hp, E_col4 _ x s h0 h1 hp, E_tops _ x s h0 h1 hp] at e
  exact ⟨k, hk, e⟩

end RI

end Cert.Proof

end
-- ==== Proof.lean ====
/-
  The certificate's claims, proved: the three frames, that idealizing rewrote nothing, and that the kernel's result is
  the reference's when every box has size.
-/
module

public import proofs.«01_k».proof.Defs
public import proofs.«01_k».proof.Proof.MainBits
public import proofs.«01_k».proof.Proof.MainIdeal
public import proofs.«01_k».proof.Proof.MainRef
public import proofs.«01_k».proof.Proof.Same

@[expose] public section

noncomputable section

namespace Cert.Proof

open Idealize.ShloMosaic Idealize.SL.Sem
open Idealize.ShloMosaic.TcCoe

/-- On one device: the reference's result from the same arguments is the kernel's. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.KernelIdeal.S4x20000x4 .f32) (s : FVec Ideal Cert.KernelIdeal.S4x20000 .f32)
    (h0 : KI.start m c (Proc.devRef .tc Cert.KernelIdeal.main_arg0) = x) (h1 : KI.start m c (Proc.devRef .tc Cert.KernelIdeal.main_arg1) = s)
    (h0' : RI.start m' c (Proc.devRef .tc Cert.ReferenceIdeal.main_arg0) = x) (h1' : RI.start m' c (Proc.devRef .tc Cert.ReferenceIdeal.main_arg1) = s)
    (hp : (@Cert.Pre_every_box_has_size.fn preFacts Ideal _ x s) = fun _ => 1#1) :
    RI.final m' c = KI.final m c := by
  obtain ⟨k, hk, e⟩ := KI.final_eq x s m c h0 h1
  obtain ⟨k', hk', e'⟩ := RI.final_eq x s m' c h0' h1' hp
  rw [hk'.unique hk] at e'
  exact e'.trans e.symm

theorem claim : Cert.Claim := ⟨Cert.Kernel.Gen.facts, Cert.KernelIdeal.Gen.facts, Cert.ReferenceIdeal.Gen.facts, preFacts,
  fun m g _ => K.frame m g, fun m g _ => KI.frame m g, fun m g _ => KI.frame m g, fun m g _ => RI.frame m g, fun m g _ => RI.frame m g, trivial,
  fun m g m' g' hp ha => ⟨KI.final m, KI.run_final m g, (θ_run _ _ _).mono
    (fun _ h c => ⟨(h c).1.trans (same m m' c _ _ rfl rfl (ha c).1 (ha c).2 (hp c)), (h c).2⟩) (RI.run_final m' g')⟩⟩

end Cert.Proof

end
